-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![2, 512, 8, 64]⟩ ⟨4, ![2, 1024, 8, 64]⟩ (Layout.meshBlock [2, 2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Pre_scores_finite_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn {F : FTy → Type} [FloatOps F] (main_arg0 : FVec F S2x1024x8x64 .f32) (main_arg1 : FVec F S2x1024x8x64 .f32) (main_arg2 : FVec F S2x1024x8x64 .f32) : IVec S_ 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_c : IVec S_ 1 := constantI S_ 1 1#1
  let main_v3 : IVec S_ 1 := (fun x v => Host.reduce IntOp.andi x v reducesTo_S2x1024x8x64_S_d0_1_2_3 h_S_) main_v2 main_c
  let main_v4 : FVec F S2x1024x8x64 .f32 := Host.absf main_arg1
  let main_cst_0 : FVec F S_ .f32 := constant S_ .f32 0x7F800000#32
  let main_v5 : FVec F S2x1024x8x64 .f32 := broadcastInDim S2x1024x8x64 ![] bcast_S_S2x1024x8x64 main_cst_0
  let main_v6 : IVec S2x1024x8x64 1 := cmpf .olt main_v4 main_v5
  let main_c_1 : IVec S_ 1 := constantI S_ 1 1#1
  let main_v7 : IVec S_ 1 := (fun x v => Host.reduce IntOp.andi x v reducesTo_S2x1024x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S9 : Shape := ⟨1, ![9]⟩
abbrev S8 : Shape := ⟨1, ![8]⟩
abbrev S1 : Shape := ⟨1, ![1]⟩
abbrev S_ : Shape := ⟨0, ![]⟩
abbrev S1x8x64x512 : Shape := ⟨4, ![1, 8, 64, 512]⟩
abbrev S8x64x512 : Shape := ⟨3, ![8, 64, 512]⟩
abbrev S1x4x64x512 : Shape := ⟨4, ![1, 4, 64, 512]⟩
abbrev S4x64x512 : Shape := ⟨3, ![4, 64, 512]⟩
abbrev S1x512 : Shape := ⟨2, ![1, 512]⟩
abbrev S1x64x512 : Shape := ⟨3, ![1, 64, 512]⟩
abbrev S64x512 : Shape := ⟨2, ![64, 512]⟩
abbrev S1x1x64x512 : Shape := ⟨4, ![1, 1, 64, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x64x512, .f32⟩
  | .hbm, ⟨4, _⟩ => ⟨S2x8x64x512, .f32⟩
  | .hbm, ⟨5, _⟩ => ⟨S2x8x64x512, .f32⟩
  | .hbm, ⟨6, _⟩ => ⟨S2x8x64x512, .f32⟩
  | .hbm, ⟨7, _⟩ => ⟨S2x512x8x64, .f32⟩
  | .local _ .vmem, ⟨0, _⟩ => ⟨S2x8x64x512, .f32⟩
  | .local _ .vmem, ⟨1, _⟩ => ⟨S2x8x64x512, .f32⟩
  | .local _ .vmem, ⟨2, _⟩ => ⟨S2x8x64x512, .f32⟩
  | .local _ .vmem, ⟨3, _⟩ => ⟨S2x8x64x512, .f32⟩
  | .local _ .vmem, ⟨4, _⟩ => ⟨S2x8x64x512, .bf16⟩
  | .local _ .vmem, ⟨5, _⟩ => ⟨S2x8x64x512, .bf16⟩
  | .local _ .vmem, ⟨6, _⟩ => ⟨S2x8x64x512, .bf16⟩
  | .local _ .vmem, ⟨7, _⟩ => ⟨S2x8x64x512, .bf16⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v37 : BitVec 32 := Scalar.muli v2 c4_i32_40
  let v38 : BitVec 32 := Scalar.addi c0_i32_41 v37
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v39 : BitVec 32 := Scalar.muli v9 c2_i32_42
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v41 : BitVec 32 := Scalar.muli v8 c1_i32_43
  let v42 : BitVec 32 := Scalar.addi v40 v41
  v42.toNat
def k0_dev2 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v55 : BitVec 32 := Scalar.muli v2 c4_i32_65
  let v56 : BitVec 32 := Scalar.addi c0_i32_66 v55
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_67 : BitVec 32 := 2#32
  let v57 : BitVec 32 := Scalar.muli v9 c2_i32_67
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v59 : BitVec 32 := Scalar.muli v8 c1_i32_68
  let v60 : BitVec 32 := Scalar.addi v58 v59
  v60.toNat
def k0_dev3 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v81 : BitVec 32 := Scalar.muli v2 c4_i32_96
  let v82 : BitVec 32 := Scalar.addi c0_i32_97 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_98 : BitVec 32 := 2#32
  let v83 : BitVec 32 := Scalar.muli v9 c2_i32_98
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v85 : BitVec 32 := Scalar.muli v8 c1_i32_99
  let v86 : BitVec 32 := Scalar.addi v84 v85
  v86.toNat
def k0_dev4 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v101 : BitVec 32 := Scalar.muli v2 c4_i32_117
  let v102 : BitVec 32 := Scalar.addi c0_i32_118 v101
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_119 : BitVec 32 := 2#32
  let v103 : BitVec 32 := Scalar.muli v9 c2_i32_119
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v105 : BitVec 32 := Scalar.muli v8 c1_i32_120
  let v106 : BitVec 32 := Scalar.addi v104 v105
  v106.toNat
def k0_dev5 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v121 : BitVec 32 := Scalar.muli v2 c4_i32_139
  let v122 : BitVec 32 := Scalar.addi c0_i32_140 v121
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_141 : BitVec 32 := 2#32
  let v123 : BitVec 32 := Scalar.muli v9 c2_i32_141
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v125 : BitVec 32 := Scalar.muli v8 c1_i32_142
  let v126 : BitVec 32 := Scalar.addi v124 v125
  v126.toNat
def k0_dev6 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v147 : BitVec 32 := Scalar.muli v2 c4_i32_169
  let v148 : BitVec 32 := Scalar.addi c0_i32_170 v147
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_171 : BitVec 32 := 2#32
  let v149 : BitVec 32 := Scalar.muli v9 c2_i32_171
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v151 : BitVec 32 := Scalar.muli v8 c1_i32_172
  let v152 : BitVec 32 := Scalar.addi v150 v151
  v152.toNat
def k0_dev7 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v173 : BitVec 32 := Scalar.muli v2 c4_i32_199
  let v174 : BitVec 32 := Scalar.addi c0_i32_200 v173
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_201 : BitVec 32 := 2#32
  let v175 : BitVec 32 := Scalar.muli v9 c2_i32_201
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v177 : BitVec 32 := Scalar.muli v8 c1_i32_202
  let v178 : BitVec 32 := Scalar.addi v176 v177
  v178.toNat
def k0_dev8 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v193 : BitVec 32 := Scalar.muli v2 c4_i32_220
  let v194 : BitVec 32 := Scalar.addi c0_i32_221 v193
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_222 : BitVec 32 := 2#32
  let v195 : BitVec 32 := Scalar.muli v9 c2_i32_222
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_223 : BitVec 32 := 1#32
  let v197 : BitVec 32 := Scalar.muli v8 c1_i32_223
  let v198 : BitVec 32 := Scalar.addi v196 v197
  v198.toNat
def k0_dev9 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v213 : BitVec 32 := Scalar.muli v2 c4_i32_241
  let v214 : BitVec 32 := Scalar.addi c0_i32_242 v213
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_243 : BitVec 32 := 2#32
  let v215 : BitVec 32 := Scalar.muli v9 c2_i32_243
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v217 : BitVec 32 := Scalar.muli v8 c1_i32_244
  let v218 : BitVec 32 := Scalar.addi v216 v217
  v218.toNat
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S2x8x1024x1024, .f32⟩
  | .hbm, ⟨4, _⟩ => ⟨S_, .f32⟩
  | .hbm, ⟨5, _⟩ => ⟨S2x8x1024x1024, .f32⟩
  | .hbm, ⟨6, _⟩ => ⟨S2x8x1024x1024, .f32⟩
  | .hbm, ⟨7, _⟩ => ⟨S_, .f32⟩
  | .hbm, ⟨8, _⟩ => ⟨S2x8x1024, .f32⟩
  | .hbm, ⟨9, _⟩ => ⟨S2x8x1024x1, .f32⟩
  | .hbm, ⟨10, _⟩ => ⟨S2x8x1024x1024, .f32⟩
  | .hbm, ⟨11, _⟩ => ⟨S2x8x1024x1024, .f32⟩
  | .hbm, ⟨12, _⟩ => ⟨S2x8x1024x1024, .f32⟩
  | .hbm, ⟨13, _⟩ => ⟨S_, .f32⟩
  | .hbm, ⟨14, _⟩ => ⟨S2x8x1024, .f32⟩
  | .hbm, ⟨15, _⟩ => ⟨S2x8x1024x1, .f32⟩
  | .hbm, ⟨16, _⟩ => ⟨S2x8x1024x1024, .f32⟩
  | .hbm, ⟨17, _⟩ => ⟨S2x8x1024x1024, .f32⟩
  | .hbm, ⟨18, _⟩ => ⟨S2x8x64x1024, .f32⟩
  | .hbm, ⟨19, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Proto.lean ====
/-
  The exchange between the two devices of a pair: cells, windows, contents, the schedule of who pays
  which semaphore with what, the levels, and the ghost state each device carries.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionTalk
public import Idealize.ShloMosaic.Lib.Rounds
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline library's share of the ghost state, the exchange's, and the counters of the copies within a device. -/
noncomputable abbrev UU : Type := UR sig nD τ × (UR sig nD τ × Counters)

local notation "𝕄" => MT nD τ sig Unit (Elt F) ℕ UU ℕ

noncomputable abbrev EP : Emb (UR sig nD τ) (MT nD τ sig Unit (Elt F) ℕ UU ℕ) := embL
/-- The exchange's share: the left half of the right part. -/
noncomputable def ER : Emb (UR sig nD τ) (MT nD τ sig Unit (Elt F) ℕ UU ℕ) :=
  (Emb.inl : Emb (UR sig nD τ) (UR sig nD τ × Counters)).trans embR
instance ER_landsIn : (ER : Emb (UR sig nD τ) 𝕄).LandsIn (upEmb : UEmb _ 𝕄) := by unfold ER embR; infer_instance

/-! ## The pairing -/

/-- The other device of the pair: the same x and z, the other y. -/
noncomputable def nbr (c : Dev nD) : Dev nD := ⟨(4 * (c.val / 4) + (c.val % 2) + 2) - 2 * ((c.val / 2) % 2), by
  show _ < 8; have h : c.val < 8 := c.isLt; omega⟩
/-- The pairing is an involution. -/
theorem nbr_nbr (c : Dev nD) : nbr (nbr c) = c := by revert c; decide
/-- The pairing as a permutation of the devices. -/
noncomputable def ring : Dev nD ≃ Dev nD := ⟨nbr, nbr, nbr_nbr, nbr_nbr⟩

/-! ## Memrefs, windows, semaphores -/

noncomputable abbrev qhM : Memref sig .tc .hbm S2x8x64x512 .f32 := Memref.whole main_v1
noncomputable abbrev khM : Memref sig .tc .hbm S2x8x64x512 .f32 := Memref.whole main_v2
noncomputable abbrev vhM : Memref sig .tc .hbm S2x8x64x512 .f32 := Memref.whole main_v3
noncomputable abbrev ohM : Memref sig .tc .hbm S2x8x64x512 .f32 := Memref.whole main_v4
noncomputable abbrev qvM : Memref sig .tc .vmem S2x8x64x512 .f32 := Memref.whole cc0_scratch0
noncomputable abbrev kvM : Memref sig .tc .vmem S2x8x64x512 .f32 := Memref.whole cc0_scratch1
noncomputable abbrev vvM : Memref sig .tc .vmem S2x8x64x512 .f32 := Memref.whole cc0_scratch2
noncomputable abbrev ovM : Memref sig .tc .vmem S2x8x64x512 .f32 := Memref.whole cc0_scratch3
noncomputable abbrev ksM : Memref sig .tc .vmem S2x8x64x512 .bf16 := Memref.whole cc0_scratch4
noncomputable abbrev vsM : Memref sig .tc .vmem S2x8x64x512 .bf16 := Memref.whole cc0_scratch5
noncomputable abbrev krM : Memref sig .tc .vmem S2x8x64x512 .bf16 := Memref.whole cc0_scratch6
noncomputable abbrev vrM : Memref sig .tc .vmem S2x8x64x512 .bf16 := Memref.whole cc0_scratch7

/-- The rectangle of window j: batch j / 2, heads 4 (j % 2) to 4 (j % 2) + 4. -/
noncomputable abbrev wr0 : Rect S2x8x64x512 := Rect.unit (s := S2x8x64x512) ![0, 0, 0, 0] S1x4x64x512.size inb_S2x8x64x512_S1x4x64x512_0_0_0_0
noncomputable abbrev wr1 : Rect S2x8x64x512 := Rect.unit (s := S2x8x64x512) ![0, 4, 0, 0] S1x4x64x512.size inb_S2x8x64x512_S1x4x64x512_0_4_0_0
noncomputable abbrev wr2 : Rect S2x8x64x512 := Rect.unit (s := S2x8x64x512) ![1, 0, 0, 0] S1x4x64x512.size inb_S2x8x64x512_S1x4x64x512_1_0_0_0
noncomputable abbrev wr3 : Rect S2x8x64x512 := Rect.unit (s := S2x8x64x512) ![1, 4, 0, 0] S1x4x64x512.size inb_S2x8x64x512_S1x4x64x512_1_4_0_0

noncomputable abbrev win0 {sp : Space} {e : EltTy} (m : Memref sig .tc sp S2x8x64x512 e) : Memref sig .tc sp S4x64x512 e :=
  (m.slice wr0 (fun _ => rfl)).squeeze S4x64x512 squeezes_S1x4x64x512_S4x64x512
noncomputable abbrev win1 {sp : Space} {e : EltTy} (m : Memref sig .tc sp S2x8x64x512 e) : Memref sig .tc sp S4x64x512 e :=
  (m.slice wr1 (fun _ => rfl)).squeeze S4x64x512 squeezes_S1x4x64x512_S4x64x512
noncomputable abbrev win2 {sp : Space} {e : EltTy} (m : Memref sig .tc sp S2x8x64x512 e) : Memref sig .tc sp S4x64x512 e :=
  (m.slice wr2 (fun _ => rfl)).squeeze S4x64x512 squeezes_S1x4x64x512_S4x64x512
noncomputable abbrev win3 {sp : Space} {e : EltTy} (m : Memref sig .tc sp S2x8x64x512 e) : Memref sig .tc sp S4x64x512 e :=
  (m.slice wr3 (fun _ => rfl)).squeeze S4x64x512 squeezes_S1x4x64x512_S4x64x512

/-- The window transfer i leaves from: K and V alternate, the windows in order. -/
noncomputable def snd : Fin 8 → Memref sig .tc .vmem S4x64x512 .bf16
  | 0 => win0 ksM | 1 => win0 vsM | 2 => win1 ksM | 3 => win1 vsM
  | 4 => win2 ksM | 5 => win2 vsM | 6 => win3 ksM | 7 => win3 vsM
/-- The window transfer i lands in. -/
noncomputable def rcv : Fin 8 → Memref sig .tc .vmem S4x64x512 .bf16
  | 0 => win0 krM | 1 => win0 vrM | 2 => win1 krM | 3 => win1 vrM
  | 4 => win2 krM | 5 => win2 vrM | 6 => win3 krM | 7 => win3 vrM

noncomputable abbrev barS : Sem sig := barrier0
/-- The semaphore transfer i's departure is counted on. -/
noncomputable abbrev sndS (i : Fin 8) : DmaSem sig := (⟨9 + i.val, by omega⟩ : Fin 25)
/-- The semaphore transfer i's arrival is counted on. -/
noncomputable abbrev rcvS (i : Fin 8) : DmaSem sig := (⟨17 + i.val, by omega⟩ : Fin 25)
/-- The semaphores of the copies within the device. -/
noncomputable abbrev locS (i : Fin 9) : DmaSem sig := (⟨i.val, by omega⟩ : Fin 25)

noncomputable abbrev barCell (c : Dev nD) : GSem nD τ sig := ((c : Thread nD τ), .reg barS)
noncomputable abbrev sndCell (c : Dev nD) (i : Fin 8) : GSem nD τ sig := ((c : Thread nD τ), .dma (sndS i))
noncomputable abbrev rcvCell (c : Dev nD) (i : Fin 8) : GSem nD τ sig := ((c : Thread nD τ), .dma (rcvS i))
noncomputable abbrev locCell (c : Dev nD) (i : Fin 9) : GSem nD τ sig := ((c : Thread nD τ), .dma (locS i))

/-- The credit of one transfer. -/
noncomputable abbrev N : ℕ := (rcv 0).view.dmaCredit
/-- Every transfer's credit is N. -/
theorem N_eq (i : Fin 8) : (rcv i).view.dmaCredit = N := by
  match i with
  | 0 | 1 | 2 | 3 | 4 | 5 | 6 | 7 => rfl
/-- A transfer's credit is positive. -/
theorem N_pos : 0 < N := View.dmaCredit_pos _ (by decide)

/-! ## Contents -/

variable (m : (ℓ : Loc nD τ sig) → Buf (Elt F) ℓ) (ρ : Dev nD → PrngReg)

noncomputable abbrev V₀ (c : Dev nD) : Valuation τ sig (Elt F) := fun b => m ((c : Dev nD), b)
/-- What a device's buffers hold when the kernel is called: the launch contents after the three transposes. -/
noncomputable abbrev V₁ (c : Dev nD) : Valuation τ sig (Elt F) := StableHlo.after hostOps0 (V₀ m c)

/-- Device c's own queries, keys and values, transposed, as the kernel finds them. -/
noncomputable def QH (c : Dev nD) : S2x8x64x512.Idx → F .f32 := V₁ m c main_v1
noncomputable def KH (c : Dev nD) : S2x8x64x512.Idx → F .f32 := V₁ m c main_v2
noncomputable def VH (c : Dev nD) : S2x8x64x512.Idx → F .f32 := V₁ m c main_v3
/-- Its keys and values rounded to bf16: what it sends. -/
noncomputable def KS (c : Dev nD) : S2x8x64x512.Idx → F .bf16 := truncf .bf16 (KH m c) bitsLt_bf16_f32
noncomputable def VS (c : Dev nD) : S2x8x64x512.Idx → F .bf16 := truncf .bf16 (VH m c) bitsLt_bf16_f32

/-- The contents of the buffer transfer i leaves from. -/
noncomputable def sndC (c : Dev nD) (i : Fin 8) : Buf (Elt F) ((snd i).view.loc (c : Thread nD τ)) := match i with
  | 0 => (KS m c : S2x8x64x512.Idx → F .bf16) | 1 => (VS m c : S2x8x64x512.Idx → F .bf16)
  | 2 => (KS m c : S2x8x64x512.Idx → F .bf16) | 3 => (VS m c : S2x8x64x512.Idx → F .bf16)
  | 4 => (KS m c : S2x8x64x512.Idx → F .bf16) | 5 => (VS m c : S2x8x64x512.Idx → F .bf16)
  | 6 => (KS m c : S2x8x64x512.Idx → F .bf16) | 7 => (VS m c : S2x8x64x512.Idx → F .bf16)
/-- What transfer i leaves in device c's buffer: the other device's keys or values. -/
noncomputable def rcvC (c : Dev nD) (i : Fin 8) : Buf (Elt F) ((rcv i).view.loc (c : Thread nD τ)) := match i with
  | 0 => (KS m (nbr c) : S2x8x64x512.Idx → F .bf16) | 1 => (VS m (nbr c) : S2x8x64x512.Idx → F .bf16)
  | 2 => (KS m (nbr c) : S2x8x64x512.Idx → F .bf16) | 3 => (VS m (nbr c) : S2x8x64x512.Idx → F .bf16)
  | 4 => (KS m (nbr c) : S2x8x64x512.Idx → F .bf16) | 5 => (VS m (nbr c) : S2x8x64x512.Idx → F .bf16)
  | 6 => (KS m (nbr c) : S2x8x64x512.Idx → F .bf16) | 7 => (VS m (nbr c) : S2x8x64x512.Idx → F .bf16)

noncomputable abbrev hL : PosShare TreeShare := (fullShare : PosShare TreeShare).left
noncomputable abbrev hR : PosShare TreeShare := (fullShare : PosShare TreeShare).right

/-- Window i of the buffers device c sends from, at the contents it sends, at share q. -/
noncomputable def sndP (c : Dev nD) (i : Fin 8) (q : PosShare TreeShare) : sProp 𝕄 :=
  (snd i).view.loc (c : Thread nD τ) ↦[(snd i).view.set]{q} sndC m c i
/-- Window i of the buffers device c receives in, at contents f. -/
noncomputable def rcvP (c : Dev nD) (i : Fin 8) (f : Buf (Elt F) ((rcv i).view.loc (c : Thread nD τ))) : sProp 𝕄 :=
  (rcv i).view.loc (c : Thread nD τ) ↦[(rcv i).view.set]{fullShare} f

/-- What lands in a window is what left the other device's window. -/
theorem landed (c : Dev nD) (i : Fin 8) (fd : Buf (Elt F) ((rcv i).view.loc (nbr c : Thread nD τ))) :
    rcvP (nbr c) i ((rcv i).view.write (Elt F) fd ((snd i).view.read (Elt F) (sndC m c i)) Finset.univ)
      = (rcvP (nbr c) i (rcvC m (nbr c) i) : sProp 𝕄) := by
  refine pointsTo_congr fun j hj => ?_
  obtain ⟨x, -, rfl⟩ := Finset.mem_map.mp hj
  rw [View.write_emb_of_mem _ _ (Finset.mem_univ _)]
  match i with
  | 0 | 1 | 2 | 3 | 4 | 5 | 6 | 7 => unfold rcvC; dsimp only; rw [nbr_nbr]; rfl

/-! ## The schedule -/

/-- Paid to device c's barrier cell by the other device: all the other device's receive windows, and that round 0 of their cells is reached. -/
noncomputable def barPay (c : Dev nD) : sProp 𝕄 :=
  bigSep Finset.univ fun i : Fin 8 => iprop((∃ f, rcvP (nbr c) i f) ∗ reached ER (rcvCell (nbr c) i) 0)

/-- Transfer number of a DMA semaphore below 25, counted from b. -/
noncomputable def ofS (b : ℕ) (s : DmaSem sig) : Fin 8 := ⟨(s.val - b) % 8, Nat.mod_lt _ (by decide)⟩

noncomputable abbrev isSnd (g : GSem nD τ sig) : Prop := ∃ i, g.2 = .dma (sndS i)
noncomputable abbrev isRcv (g : GSem nD τ sig) : Prop := ∃ i, g.2 = .dma (rcvS i)
noncomputable abbrev IsTalk (g : GSem nD τ sig) : Prop := g.1.2 = .tc ∧ (g.2 = .reg barS ∨ isSnd g ∨ isRcv g)

/-- What a semaphore of a device is paid with. -/
noncomputable def payOf (c : Dev nD) : SemLoc sig → sProp 𝕄
  | .reg _ => barPay c
  | .dma s => if s.val < 17 then sndP m c (ofS 9 s) hL else rcvP c (ofS 17 s) (rcvC m c (ofS 17 s))

/-- One round: one duty on every barrier, departure and arrival cell. -/
noncomputable def Rd : Rounds.Schedule (GSem nD τ sig) Unit 𝕄 where
  duties g r := if r = 0 ∧ IsTalk g then {()} else ∅
  unitless _ := False
  amount g _ _ := if g.2 = .reg barS then 1 else N
  payload g _ _ := payOf m g.1.1 g.2
  amount_pos g _ _ _ := by
    by_cases h : g.2 = .reg barS
    · rw [if_pos h]; exact Nat.one_pos
    · rw [if_neg h]; exact N_pos

instance Rd_payload_storable (g : GSem nD τ sig) (r : ℕ) (d : Unit) :
    BI.Storable (upEmb : UEmb _ 𝕄) ((Rd (F := F) m).payload g r d) := by
  show BI.Storable upEmb (payOf m g.1.1 g.2)
  unfold payOf
  split
  · unfold barPay rcvP; infer_instance
  · unfold sndP rcvP; split <;> infer_instance

section Sched

variable (c : Dev nD) (i : Fin 8)

theorem snd_ne_bar : (SemLoc.dma (sndS i) : SemLoc sig) ≠ .reg barS := fun h => by cases h
theorem rcv_ne_bar : (SemLoc.dma (rcvS i) : SemLoc sig) ≠ .reg barS := fun h => by cases h
theorem ofS_snd : ofS 9 (sndS i) = i := by revert i; decide
theorem ofS_rcv : ofS 17 (rcvS i) = i := by revert i; decide

theorem duties_bar : (Rd (F := F) m).duties (barCell c) 0 = {()} := by dsimp only [Rd]; exact if_pos ⟨rfl, rfl, .inl rfl⟩
theorem duties_snd : (Rd (F := F) m).duties (sndCell c i) 0 = {()} := by dsimp only [Rd]; exact if_pos ⟨rfl, rfl, .inr (.inl ⟨i, rfl⟩)⟩
theorem duties_rcv : (Rd (F := F) m).duties (rcvCell c i) 0 = {()} := by dsimp only [Rd]; exact if_pos ⟨rfl, rfl, .inr (.inr ⟨i, rfl⟩)⟩
theorem duties_later (g : GSem nD τ sig) : ∀ r, 1 ≤ r → (Rd (F := F) m).duties g r = ∅ :=
  fun r hr => by dsimp only [Rd]; rw [if_neg (fun h => by omega)]

theorem amount_bar (u : Unit) : (Rd (F := F) m).amount (barCell c) 0 u = 1 := by dsimp only [Rd]; exact if_pos rfl
theorem amount_snd (u : Unit) : (Rd (F := F) m).amount (sndCell c i) 0 u = N := by dsimp only [Rd]; exact if_neg (snd_ne_bar i)
theorem amount_rcv (u : Unit) : (Rd (F := F) m).amount (rcvCell c i) 0 u = N := by dsimp only [Rd]; exact if_neg (rcv_ne_bar i)

theorem expect_bar : (Rd (F := F) m).expect (barCell c) 0 = 1 := by
  unfold Schedule.expect Schedule.amountOf; rw [duties_bar, Finset.sum_singleton, amount_bar]
theorem expect_snd : (Rd (F := F) m).expect (sndCell c i) 0 = N := by
  unfold Schedule.expect Schedule.amountOf; rw [duties_snd, Finset.sum_singleton, amount_snd]
theorem expect_rcv : (Rd (F := F) m).expect (rcvCell c i) 0 = N := by
  unfold Schedule.expect Schedule.amountOf; rw [duties_rcv, Finset.sum_singleton, amount_rcv]

theorem payload_bar (u : Unit) : (Rd (F := F) m).payload (barCell c) 0 u = barPay c := rfl
theorem payload_snd (u : Unit) : (Rd (F := F) m).payload (sndCell c i) 0 u = sndP m c i hL := by
  dsimp only [Rd, payOf]; rw [if_pos (show (sndS i).val < 17 by have := i.isLt; show 9 + i.val < 17; omega), ofS_snd]
theorem payload_rcv (u : Unit) : (Rd (F := F) m).payload (rcvCell c i) 0 u = rcvP c i (rcvC m c i) := by
  dsimp only [Rd, payOf]; rw [if_neg (show ¬ (rcvS i).val < 17 by show ¬ 17 + i.val < 17; omega), ofS_rcv]

theorem rest_bar : bigSep ((Rd (F := F) m).duties (barCell c) 0 \ ∅) (fun u => (Rd (F := F) m).payload (barCell c) 0 u) = barPay c := by
  rw [Finset.sdiff_empty, duties_bar, bigSep_singleton, payload_bar]
theorem rest_snd : bigSep ((Rd (F := F) m).duties (sndCell c i) 0 \ ∅) (fun u => (Rd (F := F) m).payload (sndCell c i) 0 u) = sndP m c i hL := by
  rw [Finset.sdiff_empty, duties_snd, bigSep_singleton, payload_snd]
theorem rest_rcv : bigSep ((Rd (F := F) m).duties (rcvCell c i) 0 \ ∅) (fun u => (Rd (F := F) m).payload (rcvCell c i) 0 u) = rcvP c i (rcvC m c i) := by
  rw [Finset.sdiff_empty, duties_rcv, bigSep_singleton, payload_rcv]

end Sched

/-! ## What each device owes; the levels -/

/-- The arrivals device c still owes the other device when the transfers from k on are not yet started: eight fewer at each. -/
noncomputable def Owe (c : Dev nD) : ℕ → CellTallies nD τ sig Unit
  | 0 => 0
  | k + 1 => Owe c k + tallyAt (rcvCell (nbr c) (Fin.ofNat 8 (7 - k))) () N

/-- At launch: the eight arrivals and the barrier unit. -/
noncomputable def O₀ (c : Dev nD) : CellTallies nD τ sig Unit := Owe c 8 + tallyAt (barCell (nbr c)) () 1

noncomputable def L (g : GSem nD τ sig) : Finset Unit := if g.1.2 = .tc then {()} else ∅
/-- Barrier cells at 1, arrival cells at 2, the rest at 0. -/
noncomputable def lv (g : GSem nD τ sig) (_ : Unit) : ℕ := if g.2 = .reg barS then 1 else if isRcv g then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (i : Fin 8) : lv (rcvCell c i) () = 2 := by
  unfold lv; rw [if_neg (rcv_ne_bar i), if_pos ⟨i, rfl⟩]
theorem lv_bar (c : Dev nD) : lv (barCell c) () = 1 := if_pos rfl
theorem lv_loc (c : Dev nD) (i : Fin 9) : lv (locCell c i) () = 0 := by
  unfold lv; rw [if_neg (fun h => by cases h), if_neg]
  rintro ⟨j, h⟩
  have h' : i.val = 17 + j.val := congrArg Fin.val (SemLoc.dma.inj h)
  have := i.isLt; omega

/-- What is owed among the arrivals is owed to an arrival cell of the other device. -/
theorem Owe_pos {c : Dev nD} {k : ℕ} {g : GSem nD τ sig} {u : Unit} (h : 0 < Owe c k g u) : ∃ i, g = rcvCell (nbr c) i := by
  induction k with
  | zero => exact absurd h (Nat.lt_irrefl 0)
  | succ k ih =>
    rw [Owe, Pi.add_apply, Finsupp.add_apply] at h
    rcases Nat.add_pos_iff_pos_or_pos.mp h with h | h
    · exact ih h
    · rw [tallyAt_apply] at h
      split at h
      · next hg => exact ⟨_, hg.1⟩
      · exact absurd h (Nat.lt_irrefl 0)

/-- A cell of level at most 1 may be waited on while arrivals are owed. -/
theorem mayWait_of (c : Dev nD) (sm : SemLoc sig) (k : ℕ) (h : lv ((c : Thread nD τ), sm) () ≤ 1) :
    (levAts L lv : sProp 𝕄) ⊢ MayWait (c : Thread nD τ) sm () (Owe c k) :=
  MayOwe.of_cut (L := L) (lev := lv) 1 (fun p hp => by rw [Finset.mem_singleton.mp hp, L_tc]; exact Finset.mem_singleton_self _)
    (fun g u hg => by obtain ⟨i, rfl⟩ := Owe_pos hg; rw [L_tc]; exact Finset.mem_singleton_self _)
    (fun p hp => by rw [Finset.mem_singleton.mp hp]; exact h)
    (fun g u hg => by obtain ⟨i, rfl⟩ := Owe_pos hg; show 1 < lv _ (); rw [lv_rcv]; decide)

/-- The barrier cell may be waited on while arrivals are owed. -/
theorem mayWait_bar (c : Dev nD) (k : ℕ) : (levAts L lv : sProp 𝕄) ⊢ MayWait (c : Thread nD τ) (.reg barS) () (Owe c k) :=
  mayWait_of c _ k (by rw [lv_bar])
/-- So may the cells of the copies within the device. -/
theorem mayWait_loc (c : Dev nD) (i : Fin 9) (k : ℕ) : (levAts L lv : sProp 𝕄) ⊢ MayWait (c : Thread nD τ) (.dma (locS i)) () (Owe c k) :=
  mayWait_of c _ k (by rw [lv_loc]; decide)

/-! ## The ghost state -/

/-- The invariants device c opens for transfer i: its departure and arrival cells, the other device's arrival cell. -/
def inv1 (K : GSem nD τ sig → ℕ) (c : Dev nD) (i : Fin 8) : sProp 𝕄 :=
  iprop(cellInv ER (Rd m) (K (sndCell c i)) (sndCell c i) ∗ cellInv ER (Rd m) (K (rcvCell c i)) (rcvCell c i)
    ∗ cellInv ER (Rd m) (K (rcvCell (nbr c) i)) (rcvCell (nbr c) i))
instance inv1_persistent (K : GSem nD τ sig → ℕ) (c : Dev nD) (i : Fin 8) : BI.Persistent (inv1 m K c i) := by unfold inv1; infer_instance

/-- All the invariants device c opens. -/
def invs (K : GSem nD τ sig → ℕ) (c : Dev nD) : sProp 𝕄 :=
  iprop((cellInv ER (Rd m) (K (barCell c)) (barCell c) ∗ cellInv ER (Rd m) (K (barCell (nbr c))) (barCell (nbr c)))
    ∗ bigSep Finset.univ fun i : Fin 8 => inv1 m K c i)
instance invs_persistent (K : GSem nD τ sig → ℕ) (c : Dev nD) : BI.Persistent (invs m K c) := by unfold invs; infer_instance

/-- What device c carries from launch to the kernel's call. -/
def ghost (K : GSem nD τ sig → ℕ) (c : Dev nD) : sProp 𝕄 :=
  iprop(invs m K c ∗ atPos ER (barCell c) 0 ∅ 0 ∗ reached ER (barCell (nbr c)) 0 ∗ dutyTok ER (barCell (nbr c)) 0 ()
    ∗ bigSep Finset.univ fun i : Fin 8 => iprop((openTok ER (sndCell c i) ∗ openTok ER (rcvCell c i))
        ∗ (dutyTok ER (sndCell c i) 0 () ∗ dutyTok ER (rcvCell (nbr c) i) 0 ())))

/-- The credits device c waits with. -/
def creds (c : Dev nD) : sProp 𝕄 :=
  iprop(cred (tallyAt (barCell c) () 1) ∗ bigSep Finset.univ fun i : Fin 8 => cred (tallyAt (rcvCell c i) () N))

/-- What transfer i needs before it starts: its cells just opened, its two duties, the credit its arrival is waited with. -/
def ready (c : Dev nD) (i : Fin 8) : sProp 𝕄 :=
  iprop((atPos ER (sndCell c i) 0 ∅ 0 ∗ atPos ER (rcvCell c i) 0 ∅ 0) ∗ (dutyTok ER (sndCell c i) 0 () ∗ dutyTok ER (rcvCell (nbr c) i) 0 ())
    ∗ (reached ER (sndCell c i) 0) ∗ cred (tallyAt (rcvCell c i) () N))
/-- Transfer i under way. -/
def flown (c : Dev nD) (i : Fin 8) : sProp 𝕄 :=
  iprop((atPos ER (sndCell c i) 0 ∅ 0 ∗ cred (tallyAt (sndCell c i) () N)) ∗ (atPos ER (rcvCell c i) 0 ∅ 0 ∗ cred (tallyAt (rcvCell c i) () N)))

/-- After the cells are opened. -/
def opened (K : GSem nD τ sig → ℕ) (c : Dev nD) : sProp 𝕄 :=
  iprop(invs m K c ∗ atPos ER (barCell c) 0 ∅ 0 ∗ reached ER (barCell (nbr c)) 0 ∗ dutyTok ER (barCell (nbr c)) 0 ()
    ∗ cred (tallyAt (barCell c) () 1) ∗ (bigSep Finset.univ fun i : Fin 8 => reached ER (rcvCell c i) 0)
    ∗ bigSep Finset.univ fun i : Fin 8 => ready c i)

/-- A cell at its end gives its counter back at zero. -/
theorem close (κ : ℕ) (g : GSem nD τ sig) :
    iprop(cellInv ER (Rd m) κ g ∗ atPos ER g (0 + 1) ∅ 0) ⊢ (|={Set.univ}=> semVal g 0 : sProp 𝕄) :=
  Rounds.cell_close ER (Rd m) (Set.mem_univ κ) id (duties_later m g)

noncomputable abbrev 𝒱₀ : Variants := Variants.none

end Cert.KernelIdeal.Talk

end
-- ==== Proof.Steps.lean ====
/-
  One transfer's three steps — the start, the departure wait, the arrival wait — at a symbolic device and transfer
  number, and the cutting of a whole buffer into its four windows and back.
-/
module

public import proofs.«01_k».proof.Proof.Proto

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Four windows of a buffer -/

/-- The four windows cover the buffer. -/
theorem wr_cover : ((wr0.set ∪ wr1.set) ∪ wr2.set) ∪ wr3.set = (Finset.univ : Finset S2x8x64x512.Idx) := by
  ext i
  have h0 : (i 0 : ℕ) < 2 := (i 0).isLt
  have h1 : (i 1 : ℕ) < 8 := (i 1).isLt
  have h2 : (i 2 : ℕ) < 64 := (i 2).isLt
  have h3 : (i 3 : ℕ) < 512 := (i 3).isLt
  simp only [Finset.mem_union, Rect.mem_set_unit, Fin.forall_fin_succ, Finset.mem_univ, iff_true]
  simp
  omega
theorem wr_d01 : Disjoint wr0.set wr1.set := Rect.unit_disjoint (1 : Fin 4) (by decide)
theorem wr_d02 : Disjoint wr0.set wr2.set := Rect.unit_disjoint (0 : Fin 4) (by decide)
theorem wr_d03 : Disjoint wr0.set wr3.set := Rect.unit_disjoint (0 : Fin 4) (by decide)
theorem wr_d12 : Disjoint wr1.set wr2.set := Rect.unit_disjoint (0 : Fin 4) (by decide)
theorem wr_d13 : Disjoint wr1.set wr3.set := Rect.unit_disjoint (0 : Fin 4) (by decide)
theorem wr_d23 : Disjoint wr2.set wr3.set := Rect.unit_disjoint (1 : Fin 4) (by decide)

section Win

variable {sp : Space} {e : EltTy} (b : Memref sig .tc sp S2x8x64x512 e) (c : Dev nD)

theorem win0_set : (win0 b).view.set = b.view.setOn wr0.set := (View.set_reshape _ _).trans (View.set_slice _ _)
theorem win1_set : (win1 b).view.set = b.view.setOn wr1.set := (View.set_reshape _ _).trans (View.set_slice _ _)
theorem win2_set : (win2 b).view.set = b.view.setOn wr2.set := (View.set_reshape _ _).trans (View.set_slice _ _)
theorem win3_set : (win3 b).view.set = b.view.setOn wr3.set := (View.set_reshape _ _).trans (View.set_slice _ _)

/-- A memref's elements under the four rectangles are its elements. -/
theorem setOn_cover : ((b.view.setOn wr0.set ∪ b.view.setOn wr1.set) ∪ b.view.setOn wr2.set) ∪ b.view.setOn wr3.set = b.view.set := by
  unfold View.setOn View.set
  rw [← Finset.map_union, ← Finset.map_union, ← Finset.map_union, wr_cover]

/-- Disjoint rectangles have disjoint elements. -/
theorem setOn_disj {A B : Finset S2x8x64x512.Idx} (h : Disjoint A B) : Disjoint (b.view.setOn A) (b.view.setOn B) :=
  (Finset.disjoint_map _).mpr h

/-- A buffer cut into its four windows. -/
theorem four (q : PosShare TreeShare) (f : Buf (Elt F) (b.view.loc (c : Thread nD τ))) :
    (b.view.loc (c : Thread nD τ) ↦[b.view.set]{q} f : sProp 𝕄)
      ⊢ iprop((b.view.loc (c : Thread nD τ) ↦[b.view.setOn wr0.set]{q} f) ∗ (b.view.loc (c : Thread nD τ) ↦[b.view.setOn wr1.set]{q} f)
        ∗ (b.view.loc (c : Thread nD τ) ↦[b.view.setOn wr2.set]{q} f) ∗ b.view.loc (c : Thread nD τ) ↦[b.view.setOn wr3.set]{q} f) := by
  rw [← setOn_cover b]
  iintro H
  ihave H := (pointsTo_union (Finset.disjoint_union_left.mpr ⟨Finset.disjoint_union_left.mpr ⟨setOn_disj b wr_d03, setOn_disj b wr_d13⟩, setOn_disj b wr_d23⟩)).1 $$ H
  icases H with ⟨H, H3⟩
  ihave H := (pointsTo_union (Finset.disjoint_union_left.mpr ⟨setOn_disj b wr_d02, setOn_disj b wr_d12⟩)).1 $$ H
  icases H with ⟨H, H2⟩
  ihave H := (pointsTo_union (setOn_disj b wr_d01)).1 $$ H
  icases H with ⟨H0, H1⟩
  isplitl [H0]; · iexact H0
  isplitl [H1]; · iexact H1
  isplitl [H2] <;> iassumption

/-- Four windows at the same contents are the buffer at them. -/
theorem four_back (q : PosShare TreeShare) (f : Buf (Elt F) (b.view.loc (c : Thread nD τ))) :
    iprop((b.view.loc (c : Thread nD τ) ↦[b.view.setOn wr0.set]{q} f) ∗ (b.view.loc (c : Thread nD τ) ↦[b.view.setOn wr1.set]{q} f)
        ∗ (b.view.loc (c : Thread nD τ) ↦[b.view.setOn wr2.set]{q} f) ∗ b.view.loc (c : Thread nD τ) ↦[b.view.setOn wr3.set]{q} f)
      ⊢ (b.view.loc (c : Thread nD τ) ↦[b.view.set]{q} f : sProp 𝕄) := by
  rw [← setOn_cover b]
  iintro ⟨H0, H1, H2, H3⟩
  iapply (pointsTo_union (Finset.disjoint_union_left.mpr ⟨Finset.disjoint_union_left.mpr ⟨setOn_disj b wr_d03, setOn_disj b wr_d13⟩, setOn_disj b wr_d23⟩)).2
  isplitr [H3]
  · iapply (pointsTo_union (Finset.disjoint_union_left.mpr ⟨setOn_disj b wr_d02, setOn_disj b wr_d12⟩)).2
    isplitr [H2]
    · iapply (pointsTo_union (setOn_disj b wr_d01)).2
      isplitl [H0] <;> iassumption
    iexact H2
  iexact H3

/-- Four windows, each at contents of its own, are the buffer at some contents. -/
theorem four_join (q : PosShare TreeShare) (f0 f1 f2 f3 : Buf (Elt F) (b.view.loc (c : Thread nD τ))) :
    iprop((b.view.loc (c : Thread nD τ) ↦[b.view.setOn wr0.set]{q} f0) ∗ (b.view.loc (c : Thread nD τ) ↦[b.view.setOn wr1.set]{q} f1)
        ∗ (b.view.loc (c : Thread nD τ) ↦[b.view.setOn wr2.set]{q} f2) ∗ b.view.loc (c : Thread nD τ) ↦[b.view.setOn wr3.set]{q} f3)
      ⊢ (iprop(∃ f, b.view.loc (c : Thread nD τ) ↦[b.view.set]{q} f) : sProp 𝕄) := by
  rw [← setOn_cover b]
  iintro ⟨H0, H1, H2, H3⟩
  ihave H := (pointsTo_join (ℓ := b.view.loc (c : Thread nD τ)) (setOn_disj b wr_d01)) $$ [H0 H1]
  · isplitl [H0] <;> iassumption
  ihave H := (pointsTo_join (ℓ := b.view.loc (c : Thread nD τ)) (Finset.disjoint_union_left.mpr ⟨setOn_disj b wr_d02, setOn_disj b wr_d12⟩)) $$ [H H2]
  · isplitl [H] <;> iassumption
  ihave H := (pointsTo_join (ℓ := b.view.loc (c : Thread nD τ)) (Finset.disjoint_union_left.mpr ⟨Finset.disjoint_union_left.mpr ⟨setOn_disj b wr_d03, setOn_disj b wr_d13⟩, setOn_disj b wr_d23⟩)) $$ [H H3]
  · isplitl [H] <;> iassumption
  iexists _; iexact H

end Win

/-! ## Two batches of a buffer -/

/-- The rectangle of batch j, and a buffer's part under it. -/
noncomputable abbrev br0 : Rect S2x8x64x512 := Rect.unit (s := S2x8x64x512) ![0, 0, 0, 0] S1x8x64x512.size inb_S2x8x64x512_S1x8x64x512_0_0_0_0
noncomputable abbrev br1 : Rect S2x8x64x512 := Rect.unit (s := S2x8x64x512) ![1, 0, 0, 0] S1x8x64x512.size inb_S2x8x64x512_S1x8x64x512_1_0_0_0
noncomputable abbrev bat0 {sp : Space} {e : EltTy} (m : Memref sig .tc sp S2x8x64x512 e) : Memref sig .tc sp S8x64x512 e :=
  (m.slice br0 (fun _ => rfl)).squeeze S8x64x512 squeezes_S1x8x64x512_S8x64x512
noncomputable abbrev bat1 {sp : Space} {e : EltTy} (m : Memref sig .tc sp S2x8x64x512 e) : Memref sig .tc sp S8x64x512 e :=
  (m.slice br1 (fun _ => rfl)).squeeze S8x64x512 squeezes_S1x8x64x512_S8x64x512

/-- The two batches cover the buffer. -/
theorem br_cover : br0.set ∪ br1.set = (Finset.univ : Finset S2x8x64x512.Idx) := by
  ext i
  have h0 : (i 0 : ℕ) < 2 := (i 0).isLt
  have h1 : (i 1 : ℕ) < 8 := (i 1).isLt
  have h2 : (i 2 : ℕ) < 64 := (i 2).isLt
  have h3 : (i 3 : ℕ) < 512 := (i 3).isLt
  simp only [Finset.mem_union, Rect.mem_set_unit, Fin.forall_fin_succ, Finset.mem_univ, iff_true]
  simp
  omega
theorem br_d01 : Disjoint br0.set br1.set := Rect.unit_disjoint (0 : Fin 4) (by decide)

section Bat

variable {sp : Space} {e : EltTy} (b : Memref sig .tc sp S2x8x64x512 e) (c : Dev nD)

theorem setOn_br : b.view.setOn br0.set ∪ b.view.setOn br1.set = b.view.set := by
  unfold View.setOn View.set
  rw [← Finset.map_union, br_cover]

/-- A buffer cut into its two batches. -/
theorem two (q : PosShare TreeShare) (f : Buf (Elt F) (b.view.loc (c : Thread nD τ))) :
    (b.view.loc (c : Thread nD τ) ↦[b.view.set]{q} f : sProp 𝕄)
      ⊢ iprop((b.view.loc (c : Thread nD τ) ↦[b.view.setOn br0.set]{q} f) ∗ b.view.loc (c : Thread nD τ) ↦[b.view.setOn br1.set]{q} f) := by
  rw [← setOn_br b]
  exact (pointsTo_union (setOn_disj b br_d01)).1

/-- Two batches, each at contents of its own, are the buffer at some contents. -/
theorem two_join (q : PosShare TreeShare) (f0 f1 : Buf (Elt F) (b.view.loc (c : Thread nD τ))) :
    iprop((b.view.loc (c : Thread nD τ) ↦[b.view.setOn br0.set]{q} f0) ∗ b.view.loc (c : Thread nD τ) ↦[b.view.setOn br1.set]{q} f1)
      ⊢ (iprop(∃ f, b.view.loc (c : Thread nD τ) ↦[b.view.set]{q} f) : sProp 𝕄) := by
  rw [← setOn_br b]
  iintro ⟨H0, H1⟩
  ihave H := (pointsTo_join (ℓ := b.view.loc (c : Thread nD τ)) (setOn_disj b br_d01)) $$ [H0 H1]
  · isplitl [H0] <;> iassumption
  iexists _; iexact H

end Bat

/-! ## The steps of a transfer -/

variable (m : (ℓ : Loc nD τ sig) → Buf (Elt F) ℓ)

/-- The start of transfer i: half the share of the source and the other device's window go into it. -/
theorem send_step (K : GSem nD τ sig → ℕ) (c : Dev nD) (i : Fin 8) (k : ℕ) (hk : Fin.ofNat 8 (7 - k) = i) (W : Waits sig Unit)
    {src : Memref sig .tc .vmem S4x64x512 .bf16} {d : Dev nD} {dst : Memref sig .tc .vmem S4x64x512 .bf16} {sS rS : DmaSem sig}
    {hsc : dst.view.ref.isScScratch = false}
    {hsrc : src.view.WordExact} {hdst : dst.view.WordExact} {hsem : DmaTarget.Typed .vmem (.dma rS) (.remote (Dev.tc d : Thread nD τ) dst (.dma sS) hsc)}
    {α : Type} {kk : PUnit → Prog (TpuEff nD τ sig (Elt F) Λ₀ .tc) α} {Q : α → sProp 𝕄}
    (hs : src = snd i) (hd : d = nbr c) (ht : dst = rcv i) (hsS : sS = sndS i) (hrS : rS = rcvS i) :
    iprop(inv1 m K c i ∗ reached ER (rcvCell (nbr c) i) 0 ∗ sndP m c i hL ∗ (∃ f, rcvP (nbr c) i f)
        ∗ owes (c : Thread nD τ) (Owe c (k + 1)) W ∗ ready c i)
      ⊢ iprop(((flown c i ∗ owes (c : Thread nD τ) (Owe c k) W) -∗ wp frame (wpE (defs₀ (F := F)) 𝒱₀ c none) Set.univ (kk ⟨⟩) Q)
          -∗ wp frame (wpE (defs₀ (F := F)) 𝒱₀ c none) Set.univ
            (.op (.enqueueDma src (.remote (Dev.tc d) dst (.dma sS) hsc) (.dma rS) hsrc hdst hsem) kk) Q) := by
  subst hs hd ht hsS hrS
  unfold inv1 ready flown
  iintro ⟨⟨#HIs, -, #HIr⟩, #HrR, Hs, ⟨%fd, Hd⟩, HO, ⟨HaS, HaR⟩, ⟨HtS, HtR⟩, #HrS, HcR⟩ Hk
  iapply (Rounds.wp_send_pointsTo 𝒱₀ ER (Rd m) (c : Thread nD τ) none (c' := (nbr c : Thread nD τ)) (src := snd i) (dst := rcv i)
      (sS := .dma (sndS i)) (sem := .dma (rcvS i)) (q := hL) (fs := sndC m c i) (κ₁ := K (sndCell c i)) (κ₂ := K (rcvCell (nbr c) i))
      (r₁ := 0) (r₂ := 0) (d₁ := ()) (d₂ := ()) (fd := fd)
      (by rw [duties_snd]; exact Finset.mem_singleton_self _) (by rw [duties_rcv]; exact Finset.mem_singleton_self _)
      () () N (N_eq i) (amount_snd m c i ()) (amount_rcv m (nbr c) i ()) (Owe c k) (by rw [← hk]) (W := W)
      (by rw [payload_snd]; exact BI.Entails.refl _)
      (by rw [payload_rcv]; exact Entails.of_eq (landed m c i fd))) $$ [Hs Hd HO HtS HtR]
  · isplitr; · iexact HIs
    isplitr; · iexact HIr
    isplitl [Hs]; · unfold sndP; iexact Hs
    isplitl [Hd]; · unfold rcvP; iexact Hd
    isplitl [HO]; · iexact HO
    isplitl [HtS]; · iexact HtS
    isplitr; · iexact HrS
    isplitl [HtR]; · iexact HtR
    iexact HrR
  iintro ⟨HcS, HO⟩
  iapply Hk
  isplitr [HO]
  · isplitl [HaS HcS]; · isplitl [HaS] <;> iassumption
    isplitl [HaR] <;> iassumption
  iexact HO

/-- The wait for transfer i's departure: the source's half share comes back. -/
theorem wait_snd (K : GSem nD τ sig → ℕ) (c : Dev nD) (i : Fin 8) (W : Waits sig Unit)
    {sp' sp : Space} {s' s : Shape} {e' e : EltTy} {κ' : Kind} {src : Memref sig .tc sp' s' e'} {dst : Memref sig κ' sp s e} {sS : DmaSem sig}
    {hsrc : src.view.WordExact} {hdst : dst.view.WordExact}
    {α : Type} {kk : PUnit → Prog (TpuEff nD τ sig (Elt F) Λ₀ .tc) α} {Q : α → sProp 𝕄}
    (hsS : sS = sndS i) (hN : dst.view.dmaCredit = N) :
    iprop(inv1 m K c i ∗ owes (c : Thread nD τ) 0 W ∗ flown c i)
      ⊢ iprop((((∃ W', owes (c : Thread nD τ) 0 W') ∗ sndP m c i hL ∗ atPos ER (sndCell c i) (0 + 1) ∅ 0
            ∗ (atPos ER (rcvCell c i) 0 ∅ 0 ∗ cred (tallyAt (rcvCell c i) () N)))
          -∗ wp frame (wpE (defs₀ (F := F)) 𝒱₀ c none) Set.univ (kk ⟨⟩) Q)
        -∗ wp frame (wpE (defs₀ (F := F)) 𝒱₀ c none) Set.univ (.op (.waitDma2 sS src dst hsrc hdst) kk) Q) := by
  subst hsS
  unfold inv1 flown
  iintro ⟨⟨#HIs, -, -⟩, HO, ⟨HaS, HcS⟩, HR⟩ Hk
  iapply (Rounds.wp_wait_rest_token 𝒱₀ ER (Rd m) (c : Thread nD τ) none (κ := K (sndCell c i))
      (wpE_waitDma2_eq (src := src) (dst := dst) 𝒱₀ (c : Thread nD τ) none Set.univ) (Set.mem_univ _) () (O := 0) (W := W) (R := 0) (m := 0) (T := ∅)
      ((Nat.zero_add _).trans (hN.trans (expect_snd m c i).symm))) $$ [HcS HO HaS]
  · isplitr; · iexact HIs
    isplitl [HcS]; · rw [hN]; iexact HcS
    isplitl [HO]; · iexact HO
    isplitr; · rw [MayWait_zero]; iempintro
    iexact HaS
  iintro ⟨HO, HaS, -, Hpay⟩
  ihave Hs := (Entails.of_eq (rest_snd m c i)) $$ Hpay
  iapply Hk
  isplitl [HO]; · iexists _; iexact HO
  isplitl [Hs]; · iexact Hs
  isplitl [HaS] <;> iassumption

/-- The wait for transfer i's arrival: the other device's keys or values are in the window. -/
theorem wait_rcv (K : GSem nD τ sig → ℕ) (c : Dev nD) (i : Fin 8) (W : Waits sig Unit)
    {sp' sp : Space} {s' s : Shape} {e' e : EltTy} {κ' : Kind} {src : Memref sig .tc sp' s' e'} {dst : Memref sig κ' sp s e} {rS : DmaSem sig}
    {hsrc : src.view.WordExact} {hdst : dst.view.WordExact}
    {α : Type} {kk : PUnit → Prog (TpuEff nD τ sig (Elt F) Λ₀ .tc) α} {Q : α → sProp 𝕄}
    (hrS : rS = rcvS i) (hN : dst.view.dmaCredit = N) :
    iprop(inv1 m K c i ∗ owes (c : Thread nD τ) 0 W ∗ (atPos ER (rcvCell c i) 0 ∅ 0 ∗ cred (tallyAt (rcvCell c i) () N)))
      ⊢ iprop((((∃ W', owes (c : Thread nD τ) 0 W') ∗ rcvP c i (rcvC m c i) ∗ atPos ER (rcvCell c i) (0 + 1) ∅ 0)
          -∗ wp frame (wpE (defs₀ (F := F)) 𝒱₀ c none) Set.univ (kk ⟨⟩) Q)
        -∗ wp frame (wpE (defs₀ (F := F)) 𝒱₀ c none) Set.univ (.op (.waitDma2 rS src dst hsrc hdst) kk) Q) := by
  subst hrS
  unfold inv1
  iintro ⟨⟨-, #HIr, -⟩, HO, HaR, HcR⟩ Hk
  iapply (Rounds.wp_wait_rest_token 𝒱₀ ER (Rd m) (c : Thread nD τ) none (κ := K (rcvCell c i))
      (wpE_waitDma2_eq (src := src) (dst := dst) 𝒱₀ (c : Thread nD τ) none Set.univ) (Set.mem_univ _) () (O := 0) (W := W) (R := 0) (m := 0) (T := ∅)
      ((Nat.zero_add _).trans (hN.trans (expect_rcv m c i).symm))) $$ [HcR HO HaR]
  · isplitr; · iexact HIr
    isplitl [HcR]; · rw [hN]; iexact HcR
    isplitl [HO]; · iexact HO
    isplitr; · rw [MayWait_zero]; iempintro
    iexact HaR
  iintro ⟨HO, HaR, -, Hpay⟩
  ihave Hd := (Entails.of_eq (rest_rcv m c i)) $$ Hpay
  iapply Hk
  isplitl [HO]; · iexists _; iexact HO
  isplitl [Hd] <;> iassumption

/-- The two barrier steps: all receive windows go to the other device, all its windows come. -/
theorem bar_signal (K : GSem nD τ sig → ℕ) (c : Dev nD) (W : Waits sig Unit) {d : Dev nD} {s : Sem sig} {n : ℤ}
    {α : Type} {kk : PUnit → Prog (TpuEff nD τ sig (Elt F) Λ₀ .tc) α} {Q : α → sProp 𝕄}
    (hd : d = nbr c) (hs : s = barS) (hn : n = ((1 : ℕ) : ℤ)) :
    iprop(invs m K c ∗ owes (c : Thread nD τ) (O₀ c) W ∗ dutyTok ER (barCell (nbr c)) 0 () ∗ reached ER (barCell (nbr c)) 0
        ∗ barPay (nbr c))
      ⊢ iprop((owes (c : Thread nD τ) (Owe c 8) W -∗ wp frame (wpE (defs₀ (F := F)) 𝒱₀ c none) Set.univ (kk ⟨⟩) Q)
          -∗ wp frame (wpE (defs₀ (F := F)) 𝒱₀ c none) Set.univ (.op (.semSignal (Dev.tc d) s n) kk) Q) := by
  subst hd hs hn
  unfold invs
  iintro ⟨⟨⟨-, #HIp⟩, -⟩, HO, Ht, #Hr, Hp⟩ Hk
  iapply (Rounds.wp_signal 𝒱₀ ER (Rd m) (c : Thread nD τ) none (dst := (nbr c : Thread nD τ)) (sem := barS) (r := 0) (d := ()) (κ := K (barCell (nbr c)))
      (by rw [duties_bar]; exact Finset.mem_singleton_self _) (amount_bar m (nbr c) ()) () (Owe c 8) rfl)
    $$ [HO Ht Hp]
  · isplitr; · iexact HIp
    isplitl [HO]; · iexact HO
    isplitl [Ht]; · iexact Ht
    isplitl [Hp]; · rw [payload_bar]; iexact Hp
    iexact Hr
  iexact Hk

/-- The wait on the own barrier cell. -/
theorem bar_wait (K : GSem nD τ sig → ℕ) (c : Dev nD) (W : Waits sig Unit) {s : Sem sig} {n : ℕ}
    {α : Type} {kk : PUnit → Prog (TpuEff nD τ sig (Elt F) Λ₀ .tc) α} {Q : α → sProp 𝕄}
    (hs : s = barS) (hn : n = 1) :
    iprop(invs m K c ∗ levAts L lv ∗ owes (c : Thread nD τ) (Owe c 8) W ∗ cred (tallyAt (barCell c) () 1) ∗ atPos ER (barCell c) 0 ∅ 0)
      ⊢ iprop((((∃ W', owes (c : Thread nD τ) (Owe c 8) W') ∗ atPos ER (barCell c) (0 + 1) ∅ 0 ∗ barPay c)
            -∗ wp frame (wpE (defs₀ (F := F)) 𝒱₀ c none) Set.univ (kk ⟨⟩) Q)
          -∗ wp frame (wpE (defs₀ (F := F)) 𝒱₀ c none) Set.univ (.op (.semWait s n) kk) Q) := by
  subst hs hn
  unfold invs
  iintro ⟨⟨⟨#HI, -⟩, -⟩, #Hlev, HO, Hc, Ha⟩ Hk
  iapply (Rounds.wp_wait_rest_token 𝒱₀ ER (Rd m) (c : Thread nD τ) none (κ := K (barCell c))
      (wpE_semWait_eq 𝒱₀ (c : Thread nD τ) none Set.univ) (Set.mem_univ _) () (O := Owe c 8) (W := W) (R := 0) (m := 0) (T := ∅)
      ((Nat.zero_add 1).trans (expect_bar m c).symm)) $$ [Hc HO Ha]
  · isplitr; · iexact HI
    isplitl [Hc]; · iexact Hc
    isplitl [HO]; · iexact HO
    isplitr; · iapply (mayWait_bar c 8); iexact Hlev
    iexact Ha
  iintro ⟨HO, Ha, -, Hpay⟩
  ihave Hp := (Entails.of_eq (rest_bar m c)) $$ Hpay
  iapply Hk
  isplitl [HO]; · iexists _; iexact HO
  isplitl [Ha] <;> iassumption

/-- One transfer's invariants out of all. -/
theorem inv_at (K : GSem nD τ sig → ℕ) (c : Dev nD) (i : Fin 8) : (invs m K c : sProp 𝕄) ⊢ inv1 m K c i := by
  unfold invs
  exact sep_elim_right.trans (show _ ⊢ _ from bigSep_elim (Finset.mem_univ i))

/-- A family over the eight transfers, listed. -/
theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]
  rfl

end Cert.KernelIdeal.Talk

end
-- ==== Proof.Contents.lean ====
/-
  What loads, stores and the copies within a device leave in a buffer, stated against the arrays of the
  exchange: a window just stored into, a batch just copied, a head just read.
-/
module

public import proofs.«01_k».proof.Proof.Steps
public import Idealize.ShloMosaic.Lib.Pipeline.Value

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

section Win

variable {sp sp' : Space} {e : EltTy} (b : Memref sig .tc sp S2x8x64x512 e) (b' : Memref sig .tc sp' S2x8x64x512 e) (c : Dev nD)

/-- A window named by its rectangle in the whole buffer. -/
theorem win0_pts (q : PosShare TreeShare) (f : Buf (Elt F) (b.view.loc (c : Thread nD τ))) :
    ((win0 b).view.loc (c : Thread nD τ) ↦[(win0 b).view.set]{q} f : sProp 𝕄) = (b.view.loc (c : Thread nD τ) ↦[b.view.setOn wr0.set]{q} f) := by
  rw [win0_set]
theorem win1_pts (q : PosShare TreeShare) (f : Buf (Elt F) (b.view.loc (c : Thread nD τ))) :
    ((win1 b).view.loc (c : Thread nD τ) ↦[(win1 b).view.set]{q} f : sProp 𝕄) = (b.view.loc (c : Thread nD τ) ↦[b.view.setOn wr1.set]{q} f) := by
  rw [win1_set]
theorem win2_pts (q : PosShare TreeShare) (f : Buf (Elt F) (b.view.loc (c : Thread nD τ))) :
    ((win2 b).view.loc (c : Thread nD τ) ↦[(win2 b).view.set]{q} f : sProp 𝕄) = (b.view.loc (c : Thread nD τ) ↦[b.view.setOn wr2.set]{q} f) := by
  rw [win2_set]
theorem win3_pts (q : PosShare TreeShare) (f : Buf (Elt F) (b.view.loc (c : Thread nD τ))) :
    ((win3 b).view.loc (c : Thread nD τ) ↦[(win3 b).view.set]{q} f : sProp 𝕄) = (b.view.loc (c : Thread nD τ) ↦[b.view.setOn wr3.set]{q} f) := by
  rw [win3_set]

/-- Equal readings under a rectangle: the same points-to there. -/
theorem pts_congr (A : Finset S2x8x64x512.Idx) (q : PosShare TreeShare) (f g : Buf (Elt F) (b.view.loc (c : Thread nD τ)))
    (h : ∀ y ∈ A, b.view.read (Elt F) f y = b.view.read (Elt F) g y) :
    (b.view.loc (c : Thread nD τ) ↦[b.view.setOn A]{q} f : sProp 𝕄) = (b.view.loc (c : Thread nD τ) ↦[b.view.setOn A]{q} g) := by
  refine pointsTo_congr fun j hj => ?_
  obtain ⟨x, hx, rfl⟩ := Finset.mem_map.mp hj
  have h' := h x hx
  rw [View.read_apply, View.read_apply] at h'
  exact (cast_inj _).mp h'

/-- A rectangle just stored into holds the contents g where the payload is g's reading. -/
theorem pts_stored (R : Rect S2x8x64x512) (q : PosShare TreeShare) (f g : Buf (Elt F) (b.view.loc (c : Thread nD τ))) (w : R.shape.Idx → Elt F e)
    (h : w = fun j => b.view.read (Elt F) g (R.emb j)) :
    (b.view.loc (c : Thread nD τ) ↦[b.view.setOn R.set]{q} b.view.writes (Elt F) f [⟨R, w⟩] : sProp 𝕄)
      = (b.view.loc (c : Thread nD τ) ↦[b.view.setOn R.set]{q} g) := by
  refine pts_congr b c _ q _ _ fun y hy => ?_
  rw [← Rect.map_emb_univ] at hy
  obtain ⟨j, -, rfl⟩ := Finset.mem_map.mp hy
  exact (View.read_writes_cons_emb b.view f R w [] j).trans (congrFun h j)

/-- The same in two halves: one to send, one to keep. -/
theorem stored_split (R : Rect S2x8x64x512) (f g : Buf (Elt F) (b.view.loc (c : Thread nD τ))) (w : R.shape.Idx → Elt F e)
    (h : w = fun j => b.view.read (Elt F) g (R.emb j)) :
    (b.view.loc (c : Thread nD τ) ↦[b.view.setOn R.set]{fullShare} b.view.writes (Elt F) f [⟨R, w⟩] : sProp 𝕄)
      ⊢ iprop((b.view.loc (c : Thread nD τ) ↦[b.view.setOn R.set]{hL} g) ∗ (b.view.loc (c : Thread nD τ) ↦[b.view.setOn R.set]{hR} g)) := by
  rw [pts_stored b c R _ f g w h]
  exact (pointsTo_share (PosShare.mem_left_op_right fullShare)).1

/-- A part of a buffer copied from the same part of another reads as it. -/
theorem part_landed (R : Rect S2x8x64x512) (hR : ∀ a, R.stride a = 1) {t : Shape} (hsq : R.shape.Squeezes t)
    (f : b.view.ty.Contents (Elt F)) (g : b'.view.ty.Contents (Elt F)) {y : S2x8x64x512.Idx} (hy : y ∈ R.set) :
    b.view.read (Elt F) (((b.slice R hR).squeeze t hsq).view.write (Elt F) f (((b'.slice R hR).squeeze t hsq).view.read (Elt F) g) Finset.univ) y
      = b'.view.read (Elt F) g y := by
  have hm : b.view.emb y ∈ ((b.slice R hR).squeeze t hsq).view.set := by
    rw [show ((b.slice R hR).squeeze t hsq).view.set = b.view.setOn R.set from (View.set_reshape _ _).trans (View.set_slice _ _)]
    exact Finset.mem_map_of_mem _ hy
  obtain ⟨x, -, hx⟩ := Finset.mem_map.mp hm
  have hy' : R.emb (Shape.reshapeEquiv (Shape.Squeezes.numel_eq hsq) x) = y := b.view.emb.injective hx
  subst hy'
  exact View.read_write_of_mem (v := ((b.slice R hR).squeeze t hsq).view) f _ (Finset.mem_univ x)

/-- A load from a part just copied is the other buffer's reading. -/
theorem load_part (R R' : Rect S2x8x64x512) (hR : ∀ a, R.stride a = 1) {t : Shape} (hsq : R.shape.Squeezes t) (hin : ∀ j, R'.emb j ∈ R.set)
    (f : b.view.ty.Contents (Elt F)) (g : b'.view.ty.Contents (Elt F)) :
    b.view.readAt (Elt F) R'.toLoadRect (((b.slice R hR).squeeze t hsq).view.write (Elt F) f (((b'.slice R hR).squeeze t hsq).view.read (Elt F) g) Finset.univ)
      = fun j => b'.view.read (Elt F) g (R'.emb j) := by
  rw [View.readAt_rect]
  funext j
  exact part_landed b b' R hR hsq f g (hin j)

end Win

/-- A rectangle within another, coordinate by coordinate: its elements are the other's. -/
theorem unit_in {s : Shape} {o o' : Fin s.rank → ℕ} {z z' : Fin s.rank → ℕ} (h : ∀ a, o a + z a ≤ s.size a) (h' : ∀ a, o' a + z' a ≤ s.size a)
    (hle : ∀ a, o' a ≤ o a ∧ o a + z a ≤ o' a + z' a) (j) : (Rect.unit (s := s) o z h).emb j ∈ (Rect.unit (s := s) o' z' h').set := by
  have hj : (Rect.unit (s := s) o z h).emb j ∈ (Rect.unit (s := s) o z h).set := Rect.map_emb_univ _ ▸ Finset.mem_map_of_mem _ (Finset.mem_univ j)
  rw [Rect.mem_set_unit] at hj ⊢
  exact fun a => ⟨(hle a).1.trans (hj a).1, (hj a).2.trans_le (hle a).2⟩

/-- Windows 0 and 1 lie in batch 0, windows 2 and 3 in batch 1. -/
theorem wr0_br : ∀ j, wr0.emb j ∈ br0.set := unit_in _ _ (by decide)
theorem wr1_br : ∀ j, wr1.emb j ∈ br0.set := unit_in _ _ (by decide)
theorem wr2_br : ∀ j, wr2.emb j ∈ br1.set := unit_in _ _ (by decide)
theorem wr3_br : ∀ j, wr3.emb j ∈ br1.set := unit_in _ _ (by decide)

/-- The payload of a window's store is the loaded window rounded to bf16. -/
theorem pay_trunc (v : S1x4x64x512.Idx → F .f32) : k0_pay1 v = truncf .bf16 v bitsLt_bf16_f32 := by
  exact congrArg (fun x => truncf .bf16 x bitsLt_bf16_f32) (shapeCast_shapeCast v shapeCasts_S1x4x64x512_S4x64x512 shapeCasts_S4x64x512_S1x4x64x512)

/-- The windows of the eight transfers, named by rectangles of the whole buffers. -/
theorem snd_pts (c : Dev nD) (q : PosShare TreeShare) :
    ((sndP m c 0 q : sProp 𝕄) = (ksM.view.loc (c : Thread nD τ) ↦[ksM.view.setOn wr0.set]{q} KS m c))
    ∧ ((sndP m c 1 q : sProp 𝕄) = (vsM.view.loc (c : Thread nD τ) ↦[vsM.view.setOn wr0.set]{q} VS m c))
    ∧ ((sndP m c 2 q : sProp 𝕄) = (ksM.view.loc (c : Thread nD τ) ↦[ksM.view.setOn wr1.set]{q} KS m c))
    ∧ ((sndP m c 3 q : sProp 𝕄) = (vsM.view.loc (c : Thread nD τ) ↦[vsM.view.setOn wr1.set]{q} VS m c))
    ∧ ((sndP m c 4 q : sProp 𝕄) = (ksM.view.loc (c : Thread nD τ) ↦[ksM.view.setOn wr2.set]{q} KS m c))
    ∧ ((sndP m c 5 q : sProp 𝕄) = (vsM.view.loc (c : Thread nD τ) ↦[vsM.view.setOn wr2.set]{q} VS m c))
    ∧ ((sndP m c 6 q : sProp 𝕄) = (ksM.view.loc (c : Thread nD τ) ↦[ksM.view.setOn wr3.set]{q} KS m c))
    ∧ ((sndP m c 7 q : sProp 𝕄) = (vsM.view.loc (c : Thread nD τ) ↦[vsM.view.setOn wr3.set]{q} VS m c)) :=
  ⟨win0_pts ksM c q (KS m c), win0_pts vsM c q (VS m c), win1_pts ksM c q (KS m c), win1_pts vsM c q (VS m c),
    win2_pts ksM c q (KS m c), win2_pts vsM c q (VS m c), win3_pts ksM c q (KS m c), win3_pts vsM c q (VS m c)⟩
theorem rcv_pts (c : Dev nD) :
    ((rcvP c 0 (rcvC m c 0) : sProp 𝕄) = (krM.view.loc (c : Thread nD τ) ↦[krM.view.setOn wr0.set]{fullShare} KS m (nbr c)))
    ∧ ((rcvP c 1 (rcvC m c 1) : sProp 𝕄) = (vrM.view.loc (c : Thread nD τ) ↦[vrM.view.setOn wr0.set]{fullShare} VS m (nbr c)))
    ∧ ((rcvP c 2 (rcvC m c 2) : sProp 𝕄) = (krM.view.loc (c : Thread nD τ) ↦[krM.view.setOn wr1.set]{fullShare} KS m (nbr c)))
    ∧ ((rcvP c 3 (rcvC m c 3) : sProp 𝕄) = (vrM.view.loc (c : Thread nD τ) ↦[vrM.view.setOn wr1.set]{fullShare} VS m (nbr c)))
    ∧ ((rcvP c 4 (rcvC m c 4) : sProp 𝕄) = (krM.view.loc (c : Thread nD τ) ↦[krM.view.setOn wr2.set]{fullShare} KS m (nbr c)))
    ∧ ((rcvP c 5 (rcvC m c 5) : sProp 𝕄) = (vrM.view.loc (c : Thread nD τ) ↦[vrM.view.setOn wr2.set]{fullShare} VS m (nbr c)))
    ∧ ((rcvP c 6 (rcvC m c 6) : sProp 𝕄) = (krM.view.loc (c : Thread nD τ) ↦[krM.view.setOn wr3.set]{fullShare} KS m (nbr c)))
    ∧ ((rcvP c 7 (rcvC m c 7) : sProp 𝕄) = (vrM.view.loc (c : Thread nD τ) ↦[vrM.view.setOn wr3.set]{fullShare} VS m (nbr c))) :=
  ⟨win0_pts krM c _ (KS m (nbr c)), win0_pts vrM c _ (VS m (nbr c)), win1_pts krM c _ (KS m (nbr c)), win1_pts vrM c _ (VS m (nbr c)),
    win2_pts krM c _ (KS m (nbr c)), win2_pts vrM c _ (VS m (nbr c)), win3_pts krM c _ (KS m (nbr c)), win3_pts vrM c _ (VS m (nbr c))⟩

/-- The windows sent carry the same credit. -/
theorem N_snd (i : Fin 8) : (snd i).view.dmaCredit = N := by
  match i with
  | 0 | 1 | 2 | 3 | 4 | 5 | 6 | 7 => rfl

/-- A window just stored into is sent: half its share goes, half stays. -/
theorem ship (K : GSem nD τ sig → ℕ) (c : Dev nD) (i : Fin 8) (k : ℕ) (hk : Fin.ofNat 8 (7 - k) = i) {W : Waits sig Unit}
    {src : Memref sig .tc .vmem S4x64x512 .bf16} {d : Dev nD} {dst : Memref sig .tc .vmem S4x64x512 .bf16} {sS rS : DmaSem sig}
    {hsc : dst.view.ref.isScScratch = false}
    {hsrc : src.view.WordExact} {hdst : dst.view.WordExact} {hsem : DmaTarget.Typed .vmem (.dma rS) (.remote (Dev.tc d : Thread nD τ) dst (.dma sS) hsc)}
    {α : Type} {kk : PUnit → Prog (TpuEff nD τ sig (Elt F) Λ₀ .tc) α} {Q : α → sProp 𝕄}
    {b : Memref sig .tc .vmem S2x8x64x512 .bf16} {R : Rect S2x8x64x512} {g f : Buf (Elt F) (b.view.loc (c : Thread nD τ))} {w : R.shape.Idx → F .bf16}
    (hp : (sndP m c i hL : sProp 𝕄) = (b.view.loc (c : Thread nD τ) ↦[b.view.setOn R.set]{hL} g)) (hw : w = fun j => b.view.read (Elt F) g (R.emb j))
    (hd : d = nbr c) (hs : src = snd i) (ht : dst = rcv i) (hsS : sS = sndS i) (hrS : rS = rcvS i) :
    iprop(invs m K c ∗ reached ER (rcvCell (nbr c) i) 0 ∗ (b.view.loc (c : Thread nD τ) ↦[b.view.setOn R.set]{fullShare} b.view.writes (Elt F) f [⟨R, w⟩])
        ∗ (∃ f, rcvP (nbr c) i f) ∗ owes (c : Thread nD τ) (Owe c (k + 1)) W ∗ ready c i)
      ⊢ iprop((((b.view.loc (c : Thread nD τ) ↦[b.view.setOn R.set]{hR} g) ∗ flown c i ∗ owes (c : Thread nD τ) (Owe c k) W)
            -∗ wp frame (wpE (defs₀ (F := F)) 𝒱₀ c none) Set.univ (kk ⟨⟩) Q)
          -∗ wp frame (wpE (defs₀ (F := F)) 𝒱₀ c none) Set.univ
            (.op (.enqueueDma src (.remote (Dev.tc d) dst (.dma sS) hsc) (.dma rS) hsrc hdst hsem) kk) Q) := by
  iintro ⟨#HI, #Hr, Hb, Hw, HO, Hd⟩ Hk
  ihave Hb := (stored_split b c R f g w hw) $$ Hb
  icases Hb with ⟨Hs, Hb⟩
  iapply (send_step m K c i k hk W hs hd ht hsS hrS) $$ [Hs Hw HO Hd]
  · isplitr; · iapply (inv_at m K c i); iexact HI
    isplitr; · iexact Hr
    isplitl [Hs]; · iapply (Entails.of_eq hp.symm); iexact Hs
    isplitl [Hw]; · iexact Hw
    isplitl [HO] <;> iassumption
  iintro ⟨Hd, HO⟩
  iapply Hk
  isplitl [Hb]; · iexact Hb
  isplitl [Hd] <;> iassumption

end Cert.KernelIdeal.Talk

end
-- ==== Proof.Output.lean ====
/-
  What the kernel computes: one head of the output, as a function of the device's queries and of both devices'
  keys and values, and what the output windows hold once the heads are stored and copied out.
-/
module

public import proofs.«01_k».proof.Proof.Contents

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- Head i1 of batch i0, and batch i0. -/
noncomputable def hdR (i0 : Fin 2) (i1 : Fin 8) : Rect S2x8x64x512 :=
  Rect.unit (s := S2x8x64x512) ![i0.val, i1.val, 0, 0] S1x1x64x512.size (by revert i0 i1; decide)
noncomputable def btR (i0 : Fin 2) : Rect S2x8x64x512 :=
  Rect.unit (s := S2x8x64x512) ![i0.val, 0, 0, 0] S1x8x64x512.size (by revert i0; decide)

/-- The head of an array. -/
noncomputable def head {e : EltTy} (X : S2x8x64x512.Idx → Elt F e) (i0 : Fin 2) (i1 : Fin 8) : Vec F S1x1x64x512 e := fun j => X ((hdR i0 i1).emb j)
/-- The head of the queries, scaled and rounded. -/
noncomputable def qHead (Q : S2x8x64x512.Idx → F .f32) (i0 : Fin 2) (i1 : Fin 8) : FVec F S64x512 .bf16 :=
  shapeCast S64x512 (extractStridedSlice S1x64x512 ![i1.val, 0, 0] (k0_pay11 (fun j => Q ((btR i0).emb j))) (by revert i1; decide)) shapeCasts_S1x64x512_S64x512
/-- One head of the output: the own half first, then the received half, the quotient last. -/
noncomputable def outHead (Q : S2x8x64x512.Idx → F .f32) (K0 V0 K1 V1 : S2x8x64x512.Idx → F .bf16) (i0 : Fin 2) (i1 : Fin 8) : FVec F S1x1x64x512 .f32 :=
  k0_pay101 k0_pay10 (k0_pay14 k0_pay10 (qHead Q i0 i1) (head K0 i0 i1)) (k0_pay15 (qHead Q i0 i1) (head K0 i0 i1) (head V0 i0 i1))
    (k0_pay13 (qHead Q i0 i1) (head K1 i0 i1)) (head V1 i0 i1)
/-- The store of one head. -/
noncomputable def piece (Q : S2x8x64x512.Idx → F .f32) (K0 V0 K1 V1 : S2x8x64x512.Idx → F .bf16) (i0 : Fin 2) (i1 : Fin 8) :
    View.Piece (Elt F) S2x8x64x512 .f32 :=
  ⟨hdR i0 i1, outHead Q K0 V0 K1 V1 i0 i1⟩

/-- An index within its head. -/
noncomputable def inHead (i : S2x8x64x512.Idx) : S1x1x64x512.Idx
  | ⟨0, _⟩ => (0 : Fin 1) | ⟨1, _⟩ => (0 : Fin 1) | ⟨2, _⟩ => (i 2 : Fin 64) | ⟨3, _⟩ => (i 3 : Fin 512)

/-- All heads of the output. -/
noncomputable def outAll (Q : S2x8x64x512.Idx → F .f32) (K0 V0 K1 V1 : S2x8x64x512.Idx → F .bf16) : S2x8x64x512.Idx → F .f32 :=
  fun i => outHead Q K0 V0 K1 V1 (i 0) (i 1) (inHead i)
/-- Device c's output. -/
noncomputable def OUT (c : Dev nD) : S2x8x64x512.Idx → F .f32 := outAll (QH m c) (KS m c) (VS m c) (KS m (nbr c)) (VS m (nbr c))

/-- A head's payload is the output under its rectangle. -/
theorem piece_out (Q : S2x8x64x512.Idx → F .f32) (K0 V0 K1 V1 : S2x8x64x512.Idx → F .bf16) (i0 : Fin 2) (i1 : Fin 8) (x : (hdR i0 i1).shape.Idx) :
    (piece Q K0 V0 K1 V1 i0 i1).2 x = outAll Q K0 V0 K1 V1 ((hdR i0 i1).emb x) := by
  have h0 : ((hdR i0 i1).emb x) 0 = i0 := Fin.ext (by
    have : (x 0 : ℕ) < 1 := (x 0).isLt
    show i0.val + 1 * (x 0 : ℕ) = i0.val; omega)
  have h1 : ((hdR i0 i1).emb x) 1 = i1 := Fin.ext (by
    have : (x 1 : ℕ) < 1 := (x 1).isLt
    show i1.val + 1 * (x 1 : ℕ) = i1.val; omega)
  have hx : inHead ((hdR i0 i1).emb x) = x := by
    funext a
    match a with
    | ⟨0, _⟩ => exact Fin.ext (by have : (x 0 : ℕ) < 1 := (x 0).isLt; show 0 = (x 0 : ℕ); omega)
    | ⟨1, _⟩ => exact Fin.ext (by have : (x 1 : ℕ) < 1 := (x 1).isLt; show 0 = (x 1 : ℕ); omega)
    | ⟨2, _⟩ => exact Fin.ext (by show 0 + 1 * (x 2 : ℕ) = (x 2 : ℕ); omega)
    | ⟨3, _⟩ => exact Fin.ext (by show 0 + 1 * (x 3 : ℕ) = (x 3 : ℕ); omega)
  unfold outAll piece
  rw [h0, h1, hx]

/-- Where a head lies. -/
theorem mem_hdR (i0 : Fin 2) (i1 : Fin 8) (y : S2x8x64x512.Idx) (h0 : (y 0 : ℕ) = i0) (h1 : (y 1 : ℕ) = i1) : y ∈ (hdR i0 i1).set := by
  unfold hdR
  rw [Rect.mem_set_unit]
  have h2 : (y 2 : ℕ) < 64 := (y 2).isLt
  have h3 : (y 3 : ℕ) < 512 := (y 3).isLt
  intro a
  match a with
  | ⟨0, _⟩ => exact ⟨h0.ge, by show (y 0 : ℕ) < i0.val + 1; omega⟩
  | ⟨1, _⟩ => exact ⟨h1.ge, by show (y 1 : ℕ) < i1.val + 1; omega⟩
  | ⟨2, _⟩ => exact ⟨Nat.zero_le _, by show (y 2 : ℕ) < 0 + 64; omega⟩
  | ⟨3, _⟩ => exact ⟨Nat.zero_le _, by show (y 3 : ℕ) < 0 + 512; omega⟩

/-- Four heads from head z on, of batch i0, stored last first: under their window the buffer reads the output. -/
theorem read_heads {κ : Kind} {sp : Space} (v : View sig κ sp S2x8x64x512 .f32) (f : v.ty.Contents (Elt F))
    (Q : S2x8x64x512.Idx → F .f32) (K0 V0 K1 V1 : S2x8x64x512.Idx → F .bf16) (i0 : Fin 2) (z : Fin 8) (a b d : Fin 8)
    (ha : (a : ℕ) = z + 1) (hb : (b : ℕ) = z + 2) (hd : (d : ℕ) = z + 3) (y : S2x8x64x512.Idx)
    (h0 : (y 0 : ℕ) = i0) (h1 : (z : ℕ) ≤ y 1 ∧ (y 1 : ℕ) < z + 4) :
    v.read (Elt F) (v.writes (Elt F) f [piece Q K0 V0 K1 V1 i0 d, piece Q K0 V0 K1 V1 i0 b, piece Q K0 V0 K1 V1 i0 a, piece Q K0 V0 K1 V1 i0 z]) y
      = outAll Q K0 V0 K1 V1 y := by
  refine View.read_writes_apply_of_pieces v f (outAll Q K0 V0 K1 V1) _ ?_ y ?_
  · intro p hp x
    simp only [List.mem_cons, List.not_mem_nil, or_false] at hp
    rcases hp with rfl | rfl | rfl | rfl <;> exact piece_out _ _ _ _ _ _ _ x
  · have hc : (y 1 : ℕ) = d ∨ (y 1 : ℕ) = b ∨ (y 1 : ℕ) = a ∨ (y 1 : ℕ) = z := by omega
    rcases hc with h | h | h | h
    · exact ⟨_, List.mem_cons_self, mem_hdR i0 d y h0 h⟩
    · exact ⟨_, List.mem_cons_of_mem _ List.mem_cons_self, mem_hdR i0 b y h0 h⟩
    · exact ⟨_, List.mem_cons_of_mem _ (List.mem_cons_of_mem _ List.mem_cons_self), mem_hdR i0 a y h0 h⟩
    · exact ⟨_, List.mem_cons_of_mem _ (List.mem_cons_of_mem _ (List.mem_cons_of_mem _ List.mem_cons_self)), mem_hdR i0 z y h0 h⟩

/-- The queries' buffer after the whole copy holds the queries. -/
theorem q_landed (f0 : qvM.view.ty.Contents (Elt F)) (Q : S2x8x64x512.Idx → F .f32) :
    qvM.view.write (Elt F) f0 (ReadAs.same.apply (qhM.view.read (Elt F) Q)) Finset.univ = Q := by
  have h := View.read_write_univ (v := qvM.view) f0 (ReadAs.same.apply (qhM.view.read (Elt F) Q))
  exact h

/-- What an output window holds after the copy of the four heads stored under it: the output. -/
theorem out_win (c : Dev nD) (R : Rect S2x8x64x512) (hR : ∀ a, R.stride a = 1) (hsq : R.shape.Squeezes S4x64x512) (i0 : Fin 2) (z a b d : Fin 8)
    (ha : (a : ℕ) = z + 1) (hb : (b : ℕ) = z + 2) (hd : (d : ℕ) = z + 3)
    (hy : ∀ y ∈ R.set, (y 0 : ℕ) = i0 ∧ (z : ℕ) ≤ y 1 ∧ (y 1 : ℕ) < z + 4)
    (fo : Buf (Elt F) (ohM.view.loc (c : Thread nD τ))) (f3 : ovM.view.ty.Contents (Elt F)) (f0 : qvM.view.ty.Contents (Elt F))
    (L : List (View.Piece (Elt F) S2x8x64x512 .f32))
    (hL : L = [d, b, a, z].map (piece (qvM.view.write (Elt F) f0 (ReadAs.same.apply (qhM.view.read (Elt F) (QH m c))) Finset.univ)
      (KS m c) (VS m c) (KS m (nbr c)) (VS m (nbr c)) i0))
    (w : S4x64x512.Idx → F .f32)
    (hw : w = ReadAs.same.apply (((ovM.slice R hR).squeeze S4x64x512 hsq).view.read (Elt F) (ovM.view.writes (Elt F) f3 L))) :
    (ohM.view.loc (c : Thread nD τ) ↦[ohM.view.setOn R.set]{fullShare}
        ((ohM.slice R hR).squeeze S4x64x512 hsq).view.write (Elt F) fo w Finset.univ : sProp 𝕄)
      = (ohM.view.loc (c : Thread nD τ) ↦[ohM.view.setOn R.set]{fullShare} OUT m c) := by
  subst hw
  refine pts_congr ohM c _ _ _ _ fun y hyR => ?_
  refine (part_landed ohM ovM R hR hsq fo (ovM.view.writes (Elt F) f3 L) hyR).trans ?_
  rw [hL, q_landed]
  exact read_heads ovM.view f3 (QH m c) (KS m c) (VS m c) (KS m (nbr c)) (VS m (nbr c)) i0 z a b d ha hb hd y (hy y hyR).1 (hy y hyR).2

/-- The batch and the heads of a window. -/
theorem wr0_at (y : S2x8x64x512.Idx) (hy : y ∈ wr0.set) : (y 0 : ℕ) = ((0 : Fin 2) : ℕ) ∧ ((0 : Fin 8) : ℕ) ≤ y 1 ∧ (y 1 : ℕ) < ((0 : Fin 8) : ℕ) + 4 := by
  have h := Rect.mem_set_unit.mp hy
  exact ⟨le_antisymm (Nat.lt_succ_iff.mp (h 0).2) (h 0).1, (h 1).1, (h 1).2⟩
theorem wr1_at (y : S2x8x64x512.Idx) (hy : y ∈ wr1.set) : (y 0 : ℕ) = ((0 : Fin 2) : ℕ) ∧ ((4 : Fin 8) : ℕ) ≤ y 1 ∧ (y 1 : ℕ) < ((4 : Fin 8) : ℕ) + 4 := by
  have h := Rect.mem_set_unit.mp hy
  exact ⟨le_antisymm (Nat.lt_succ_iff.mp (h 0).2) (h 0).1, (h 1).1, (h 1).2⟩
theorem wr2_at (y : S2x8x64x512.Idx) (hy : y ∈ wr2.set) : (y 0 : ℕ) = ((1 : Fin 2) : ℕ) ∧ ((0 : Fin 8) : ℕ) ≤ y 1 ∧ (y 1 : ℕ) < ((0 : Fin 8) : ℕ) + 4 := by
  have h := Rect.mem_set_unit.mp hy
  exact ⟨le_antisymm (Nat.lt_succ_iff.mp (h 0).2) (h 0).1, (h 1).1, (h 1).2⟩
theorem wr3_at (y : S2x8x64x512.Idx) (hy : y ∈ wr3.set) : (y 0 : ℕ) = ((1 : Fin 2) : ℕ) ∧ ((4 : Fin 8) : ℕ) ≤ y 1 ∧ (y 1 : ℕ) < ((4 : Fin 8) : ℕ) + 4 := by
  have h := Rect.mem_set_unit.mp hy
  exact ⟨le_antisymm (Nat.lt_succ_iff.mp (h 0).2) (h 0).1, (h 1).1, (h 1).2⟩

end Cert.KernelIdeal.Talk

end
-- ==== Proof.Ends.lean ====
/-
  What a device holds before and after the kernel's body: the four arrays in HBM, the eight scratch
  buffers, the counters; the receive buffers as the windows given away; the cells closed at the end.
-/
module

public import proofs.«01_k».proof.Proof.Output

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- A buffer of the exchange's shape, whole, at some contents. -/
def any {sp : Space} {e : EltTy} (c : Dev nD) (b : Memref sig .tc sp S2x8x64x512 e) : sProp 𝕄 :=
  iprop(∃ f, b.view.loc (c : Thread nD τ) ↦[b.view.set]{fullShare} f)

/-- The eight scratch buffers, at contents not chosen. -/
def scr (c : Dev nD) : sProp 𝕄 :=
  iprop(any c qvM ∗ any c kvM ∗ any c vvM ∗ any c ovM ∗ any c ksM ∗ any c vsM ∗ any c krM ∗ any c vrM)

/-- The arrays the kernel reads and writes in HBM: queries, keys, values as found, the result at g. -/
def hosts (c : Dev nD) (g : Buf (Elt F) (ohM.view.loc (c : Thread nD τ))) : sProp 𝕄 :=
  iprop((qhM.view.loc (c : Thread nD τ) ↦{fullShare} QH m c) ∗ (khM.view.loc (c : Thread nD τ) ↦{fullShare} KH m c)
    ∗ (vhM.view.loc (c : Thread nD τ) ↦{fullShare} VH m c) ∗ (ohM.view.loc (c : Thread nD τ) ↦[ohM.view.set]{fullShare} g))

/-- The counters of the copies within the device, at zero. -/
def locs (c : Dev nD) : sProp 𝕄 :=
  iprop(semVal ((c : Thread nD τ), SemLoc.dma (⟨0, by decide⟩ : Fin 25)) 0 ∗ semVal ((c : Thread nD τ), SemLoc.dma (⟨1, by decide⟩ : Fin 25)) 0 ∗ semVal ((c : Thread nD τ), SemLoc.dma (⟨2, by decide⟩ : Fin 25)) 0
    ∗ semVal ((c : Thread nD τ), SemLoc.dma (⟨3, by decide⟩ : Fin 25)) 0 ∗ semVal ((c : Thread nD τ), SemLoc.dma (⟨4, by decide⟩ : Fin 25)) 0 ∗ semVal ((c : Thread nD τ), SemLoc.dma (⟨5, by decide⟩ : Fin 25)) 0
    ∗ semVal ((c : Thread nD τ), SemLoc.dma (⟨6, by decide⟩ : Fin 25)) 0 ∗ semVal ((c : Thread nD τ), SemLoc.dma (⟨7, by decide⟩ : Fin 25)) 0 ∗ semVal ((c : Thread nD τ), SemLoc.dma (⟨8, by decide⟩ : Fin 25)) 0)

/-- The counters of the transfers, at zero. -/
def ends (c : Dev nD) : sProp 𝕄 := bigSep Finset.univ fun i : Fin 8 => iprop(semVal (sndCell c i) 0 ∗ semVal (rcvCell c i) 0)

/-- After the body: every counter at zero, the result written, the scratch back, nothing owed. -/
def done (c : Dev nD) : sProp 𝕄 :=
  iprop(semVal (barCell c) 0 ∗ ends c ∗ locs c ∗ hosts m c (OUT m c) ∗ scr c ∗ ∃ W, owes (c : Thread nD τ) (0 : CellTallies nD τ sig Unit) W)

/-- The two receive buffers are the eight receive windows. -/
theorem wins (c : Dev nD) : iprop(any c krM ∗ any c vrM) ⊢ (bigSep Finset.univ fun i : Fin 8 => iprop(∃ f, rcvP c i f) : sProp 𝕄) := by
  rw [eight]
  unfold any rcvP
  iintro ⟨⟨%f, Hk⟩, ⟨%g, Hv⟩⟩
  ihave Hk := (four krM c fullShare f) $$ Hk
  ihave Hv := (four vrM c fullShare g) $$ Hv
  icases Hk with ⟨Hk0, Hk1, Hk2, Hk3⟩
  icases Hv with ⟨Hv0, Hv1, Hv2, Hv3⟩
  isplitl [Hk0]; · iexists f; iapply (Entails.of_eq (win0_pts krM c fullShare f).symm); iexact Hk0
  isplitl [Hv0]; · iexists g; iapply (Entails.of_eq (win0_pts vrM c fullShare g).symm); iexact Hv0
  isplitl [Hk1]; · iexists f; iapply (Entails.of_eq (win1_pts krM c fullShare f).symm); iexact Hk1
  isplitl [Hv1]; · iexists g; iapply (Entails.of_eq (win1_pts vrM c fullShare g).symm); iexact Hv1
  isplitl [Hk2]; · iexists f; iapply (Entails.of_eq (win2_pts krM c fullShare f).symm); iexact Hk2
  isplitl [Hv2]; · iexists g; iapply (Entails.of_eq (win2_pts vrM c fullShare g).symm); iexact Hv2
  isplitl [Hk3]; · iexists f; iapply (Entails.of_eq (win3_pts krM c fullShare f).symm); iexact Hk3
  iexists g; iapply (Entails.of_eq (win3_pts vrM c fullShare g).symm); iexact Hv3

/-- A send buffer whose halves came back: the windows' left halves and the whole right half. -/
theorem halves {e : EltTy} (b : Memref sig .tc .vmem S2x8x64x512 e) (c : Dev nD) (f : Buf (Elt F) (b.view.loc (c : Thread nD τ))) :
    iprop(((b.view.loc (c : Thread nD τ) ↦[b.view.setOn wr0.set]{hL} f) ∗ (b.view.loc (c : Thread nD τ) ↦[b.view.setOn wr1.set]{hL} f)
        ∗ (b.view.loc (c : Thread nD τ) ↦[b.view.setOn wr2.set]{hL} f) ∗ b.view.loc (c : Thread nD τ) ↦[b.view.setOn wr3.set]{hL} f)
        ∗ b.view.loc (c : Thread nD τ) ↦[b.view.set]{hR} f)
      ⊢ (any c b : sProp 𝕄) := by
  unfold any
  iintro ⟨Hl, Hr⟩
  ihave Hl := (four_back b c hL f) $$ Hl
  iexists f
  iapply (pointsTo_share (PosShare.mem_left_op_right fullShare)).2
  isplitl [Hl] <;> iassumption

/-- The barrier cell's invariant. -/
theorem inv_bar (K : GSem nD τ sig → ℕ) (c : Dev nD) : (invs m K c : sProp 𝕄) ⊢ cellInv ER (Rd m) (K (barCell c)) (barCell c) := by
  unfold invs
  exact sep_elim_left.trans sep_elim_left

/-- The sixteen cells of the transfers, each at its end, give their counters back. -/
theorem shut (K : GSem nD τ sig → ℕ) (c : Dev nD) :
    iprop(invs m K c ∗ bigSep Finset.univ fun i : Fin 8 => iprop(atPos ER (sndCell c i) (0 + 1) ∅ 0 ∗ atPos ER (rcvCell c i) (0 + 1) ∅ 0))
      ⊢ (|={Set.univ}=> ends c : sProp 𝕄) := by
  unfold ends
  refine (bigSep_with_persistent fun i _ => ?_).trans (bigSep_fupd _ _)
  iintro ⟨#HI, Hs, Hr⟩
  ihave #H1 := (inv_at m K c i) $$ HI
  unfold inv1
  icases H1 with ⟨#Hi, #Hj, -⟩
  imod (close m (K (sndCell c i)) (sndCell c i)) $$ [Hs] with H0
  · isplitr; · iexact Hi
    iexact Hs
  imod (close m (K (rcvCell c i)) (rcvCell c i)) $$ [Hr] with H1
  · isplitr; · iexact Hj
    iexact Hr
  imodintro
  isplitl [H0] <;> iassumption

end Cert.KernelIdeal.Talk

end
-- ==== Proof.Run.lean ====
/-
  The kernel's body, run once at a symbolic device over any float values.
-/
module

public import proofs.«01_k».proof.Proof.Ends

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The own receive windows are what the other device's barrier cell is paid with. -/
theorem give (c : Dev nD) : iprop((bigSep Finset.univ fun i : Fin 8 => iprop(∃ f, rcvP c i f)) ∗ bigSep Finset.univ fun i : Fin 8 => reached ER (rcvCell c i) 0)
    ⊢ (barPay (nbr c) : sProp 𝕄) := by
  unfold barPay
  rw [nbr_nbr]
  exact Entails.of_eq (bigSep_sep _ _ _).symm

set_option maxHeartbeats 0 in
set_option maxRecDepth 20000 in
/-- The body from the opened cells to the closed ones: the result array ends at `OUT`, whatever the scratch held. -/
theorem run (K : GSem nD τ sig → ℕ) (c : Dev nD) (W : Waits sig Unit) (fo : Buf (Elt F) (ohM.view.loc (c : Thread nD τ))) (Kt : PUnit → sProp 𝕄) :
    iprop((opened m K c ∗ levAts L lv ∗ owes (c : Thread nD τ) (O₀ c) W ∗ hosts m c fo ∗ scr c ∗ locs c) ∗ (done m c -∗ Kt ⟨⟩))
      ⊢ wp frame (wpE (defs₀ (F := F)) 𝒱₀ c none) Set.univ (bodyAt0 (F := F) t0_0) Kt := by
  unfold opened hosts scr locs
  iintro ⟨⟨⟨#HI, Hab, #Hrb, Htb, Hcb, #Hrr, Hrd⟩, #Hlev, HO, ⟨Hqh, Hkh, Hvh, Hoh⟩, ⟨Hqv, Hkv, Hvv, Hov, Hks, Hvs, Hkr, Hvr⟩, Hl0, Hl1, Hl2, Hl3, Hl4, Hl5, Hl6, Hl7, Hl8⟩, Hend⟩
  ihave Hrw := (wins c) $$ [Hkr Hvr]
  · isplitl [Hkr] <;> iassumption
  unfold any
  icases Hqv with ⟨%f0, Hqv⟩
  ihave Hqv := (Entails.of_eq (congrArg (fun S => (qvM.view.loc (c : Thread nD τ) ↦[S]{fullShare} f0 : sProp 𝕄)) (View.set_whole cc0_scratch0))) $$ Hqv
  icases Hkv with ⟨%f1, Hkv⟩
  icases Hvv with ⟨%f2, Hvv⟩
  icases Hov with ⟨%f3, Hov⟩
  icases Hks with ⟨%f4, Hks⟩
  icases Hvs with ⟨%f5, Hvs⟩
  ihave Hoh := (four ohM c fullShare fo) $$ Hoh
  icases Hoh with ⟨Hoh0, Hoh1, Hoh2, Hoh3⟩
  ihave Hkv := (two kvM c fullShare f1) $$ Hkv
  icases Hkv with ⟨Hkv0, Hkv1⟩
  ihave Hvv := (two vvM c fullShare f2) $$ Hvv
  icases Hvv with ⟨Hvv0, Hvv1⟩
  ihave Hov := (four ovM c fullShare f3) $$ Hov
  icases Hov with ⟨Hov0, Hov1, Hov2, Hov3⟩
  ihave Hks := (four ksM c fullShare f4) $$ Hks
  icases Hks with ⟨Hk0, Hk1, Hk2, Hk3⟩
  ihave Hvs := (four vsM c fullShare f5) $$ Hvs
  icases Hvs with ⟨Hv0, Hv1, Hv2, Hv3⟩
  unfold bodyAt0
  sl_exec
  iapply (bar_signal m K c W (d := ⟨k0_dev1 c, k0_dev1_lt c⟩) (Fin.ext (k0_dev1_eq c)) rfl rfl) $$ [HO Htb Hrw]
  · isplitr; · iexact HI
    isplitl [HO]; · iexact HO
    isplitl [Htb]; · iexact Htb
    isplitr; · iexact Hrb
    iapply (give c); isplitl [Hrw]; · iexact Hrw
    iexact Hrr
  iintro HO
  sl_exec
  iapply (bar_wait m K c W rfl rfl) $$ [HO Hcb Hab]
  · isplitr; · iexact HI
    isplitr; · iexact Hlev
    isplitl [HO]; · iexact HO
    isplitl [Hcb] <;> iassumption
  iintro ⟨⟨%W1, HO⟩, Hab, Hp⟩
  unfold barPay
  ihave Hp := (Entails.of_eq (eight _)) $$ Hp
  ihave Hrd := (Entails.of_eq (eight _)) $$ Hrd
  icases Hp with ⟨⟨Hw0, #Hr0⟩, ⟨Hw1, #Hr1⟩, ⟨Hw2, #Hr2⟩, ⟨Hw3, #Hr3⟩, ⟨Hw4, #Hr4⟩, ⟨Hw5, #Hr5⟩, ⟨Hw6, #Hr6⟩, ⟨Hw7, #Hr7⟩⟩
  icases Hrd with ⟨Hd0, Hd1, Hd2, Hd3, Hd4, Hd5, Hd6, Hd7⟩
  have hmw : ∀ (n : ℕ) (h : n < 25) (k : ℕ), n < 9 → ((levAts L lv : sProp 𝕄) ⊢ MayWait (c : Thread nD τ) (.dma (⟨n, h⟩ : Fin 25)) () (Owe c k)) :=
    fun n h k hn => mayWait_loc c ⟨n, hn⟩ k
  sl_exec
  iapply (ship m K c 0 7 rfl (d := ⟨k0_dev2 c, k0_dev2_lt c⟩) (snd_pts m c hL).1
      ((pay_trunc _).trans (congrArg (fun x => truncf .bf16 x bitsLt_bf16_f32) (load_part kvM khM br0 wr0 (fun _ => rfl) squeezes_S1x8x64x512_S8x64x512 wr0_br f1 (KH m c))))
      (Fin.ext (k0_dev2_eq c)) rfl rfl rfl rfl) $$ [Hk0 Hw0 HO Hd0]
  · isplitr; · iexact HI
    isplitr; · iexact Hr0
    isplitl [Hk0]; · iexact Hk0
    isplitl [Hw0]; · iexact Hw0
    isplitl [HO] <;> iassumption
  iintro ⟨Hk0, Hd0, HO⟩
  sl_exec
  iapply (ship m K c 1 6 rfl (d := ⟨k0_dev3 c, k0_dev3_lt c⟩) (snd_pts m c hL).2.1
      ((pay_trunc _).trans (congrArg (fun x => truncf .bf16 x bitsLt_bf16_f32) (load_part vvM vhM br0 wr0 (fun _ => rfl) squeezes_S1x8x64x512_S8x64x512 wr0_br f2 (VH m c))))
      (Fin.ext (k0_dev3_eq c)) rfl rfl rfl rfl) $$ [Hv0 Hw1 HO Hd1]
  · isplitr; · iexact HI
    isplitr; · iexact Hr1
    isplitl [Hv0]; · iexact Hv0
    isplitl [Hw1]; · iexact Hw1
    isplitl [HO] <;> iassumption
  iintro ⟨Hv0, Hd1, HO⟩
  sl_exec
  iapply (ship m K c 2 5 rfl (d := ⟨k0_dev4 c, k0_dev4_lt c⟩) (snd_pts m c hL).2.2.1
      ((pay_trunc _).trans (congrArg (fun x => truncf .bf16 x bitsLt_bf16_f32) (load_part kvM khM br0 wr1 (fun _ => rfl) squeezes_S1x8x64x512_S8x64x512 wr1_br f1 (KH m c))))
      (Fin.ext (k0_dev4_eq c)) rfl rfl rfl rfl) $$ [Hk1 Hw2 HO Hd2]
  · isplitr; · iexact HI
    isplitr; · iexact Hr2
    isplitl [Hk1]; · iexact Hk1
    isplitl [Hw2]; · iexact Hw2
    isplitl [HO] <;> iassumption
  iintro ⟨Hk1, Hd2, HO⟩
  sl_exec
  iapply (ship m K c 3 4 rfl (d := ⟨k0_dev5 c, k0_dev5_lt c⟩) (snd_pts m c hL).2.2.2.1
      ((pay_trunc _).trans (congrArg (fun x => truncf .bf16 x bitsLt_bf16_f32) (load_part vvM vhM br0 wr1 (fun _ => rfl) squeezes_S1x8x64x512_S8x64x512 wr1_br f2 (VH m c))))
      (Fin.ext (k0_dev5_eq c)) rfl rfl rfl rfl) $$ [Hv1 Hw3 HO Hd3]
  · isplitr; · iexact HI
    isplitr; · iexact Hr3
    isplitl [Hv1]; · iexact Hv1
    isplitl [Hw3]; · iexact Hw3
    isplitl [HO] <;> iassumption
  iintro ⟨Hv1, Hd3, HO⟩
  sl_exec
  iapply (ship m K c 4 3 rfl (d := ⟨k0_dev6 c, k0_dev6_lt c⟩) (snd_pts m c hL).2.2.2.2.1
      ((pay_trunc _).trans (congrArg (fun x => truncf .bf16 x bitsLt_bf16_f32) (load_part kvM khM br1 wr2 (fun _ => rfl) squeezes_S1x8x64x512_S8x64x512 wr2_br f1 (KH m c))))
      (Fin.ext (k0_dev6_eq c)) rfl rfl rfl rfl) $$ [Hk2 Hw4 HO Hd4]
  · isplitr; · iexact HI
    isplitr; · iexact Hr4
    isplitl [Hk2]; · iexact Hk2
    isplitl [Hw4]; · iexact Hw4
    isplitl [HO] <;> iassumption
  iintro ⟨Hk2, Hd4, HO⟩
  sl_exec
  iapply (ship m K c 5 2 rfl (d := ⟨k0_dev7 c, k0_dev7_lt c⟩) (snd_pts m c hL).2.2.2.2.2.1
      ((pay_trunc _).trans (congrArg (fun x => truncf .bf16 x bitsLt_bf16_f32) (load_part vvM vhM br1 wr2 (fun _ => rfl) squeezes_S1x8x64x512_S8x64x512 wr2_br f2 (VH m c))))
      (Fin.ext (k0_dev7_eq c)) rfl rfl rfl rfl) $$ [Hv2 Hw5 HO Hd5]
  · isplitr; · iexact HI
    isplitr; · iexact Hr5
    isplitl [Hv2]; · iexact Hv2
    isplitl [Hw5]; · iexact Hw5
    isplitl [HO] <;> iassumption
  iintro ⟨Hv2, Hd5, HO⟩
  sl_exec
  iapply (ship m K c 6 1 rfl (d := ⟨k0_dev8 c, k0_dev8_lt c⟩) (snd_pts m c hL).2.2.2.2.2.2.1
      ((pay_trunc _).trans (congrArg (fun x => truncf .bf16 x bitsLt_bf16_f32) (load_part kvM khM br1 wr3 (fun _ => rfl) squeezes_S1x8x64x512_S8x64x512 wr3_br f1 (KH m c))))
      (Fin.ext (k0_dev8_eq c)) rfl rfl rfl rfl) $$ [Hk3 Hw6 HO Hd6]
  · isplitr; · iexact HI
    isplitr; · iexact Hr6
    isplitl [Hk3]; · iexact Hk3
    isplitl [Hw6]; · iexact Hw6
    isplitl [HO] <;> iassumption
  iintro ⟨Hk3, Hd6, HO⟩
  sl_exec
  iapply (ship m K c 7 0 rfl (d := ⟨k0_dev9 c, k0_dev9_lt c⟩) (snd_pts m c hL).2.2.2.2.2.2.2
      ((pay_trunc _).trans (congrArg (fun x => truncf .bf16 x bitsLt_bf16_f32) (load_part vvM vhM br1 wr3 (fun _ => rfl) squeezes_S1x8x64x512_S8x64x512 wr3_br f2 (VH m c))))
      (Fin.ext (k0_dev9_eq c)) rfl rfl rfl rfl) $$ [Hv3 Hw7 HO Hd7]
  · isplitr; · iexact HI
    isplitr; · iexact Hr7
    isplitl [Hv3]; · iexact Hv3
    isplitl [Hw7]; · iexact Hw7
    isplitl [HO] <;> iassumption
  iintro ⟨Hv3, Hd7, HO⟩
  ihave Hk := (four_back ksM c hR (KS m c)) $$ [Hk0 Hk1 Hk2 Hk3]
  · isplitl [Hk0]; · iexact Hk0
    isplitl [Hk1]; · iexact Hk1
    isplitl [Hk2] <;> iassumption
  ihave Hv := (four_back vsM c hR (VS m c)) $$ [Hv0 Hv1 Hv2 Hv3]
  · isplitl [Hv0]; · iexact Hv0
    isplitl [Hv1]; · iexact Hv1
    isplitl [Hv2] <;> iassumption
  sl_exec
  iapply (wait_snd m K c 0 _ (dst := snd 0) rfl (N_snd 0)) $$ [HO Hd0]
  · isplitr; · iapply (inv_at m K c 0); iexact HI
    isplitl [HO]; · iexact HO
    iexact Hd0
  iintro ⟨⟨%W2, HO⟩, Hs0, Has0, Hd0⟩
  sl_exec
  iapply (wait_rcv m K c 0 _ (dst := rcv 0) rfl (N_eq 0)) $$ [HO Hd0]
  · isplitr; · iapply (inv_at m K c 0); iexact HI
    isplitl [HO] <;> iassumption
  iintro ⟨⟨%W3, HO⟩, Hw0, Har0⟩
  ihave Hw0 := (Entails.of_eq (rcv_pts m c).1) $$ Hw0
  sl_exec
  iapply (wait_snd m K c 1 _ (dst := snd 1) rfl (N_snd 1)) $$ [HO Hd1]
  · isplitr; · iapply (inv_at m K c 1); iexact HI
    isplitl [HO]; · iexact HO
    iexact Hd1
  iintro ⟨⟨%W4, HO⟩, Hs1, Has1, Hd1⟩
  sl_exec
  iapply (wait_rcv m K c 1 _ (dst := rcv 1) rfl (N_eq 1)) $$ [HO Hd1]
  · isplitr; · iapply (inv_at m K c 1); iexact HI
    isplitl [HO] <;> iassumption
  iintro ⟨⟨%W5, HO⟩, Hw1, Har1⟩
  ihave Hw1 := (Entails.of_eq (rcv_pts m c).2.1) $$ Hw1
  sl_exec
  iapply (wait_snd m K c 2 _ (dst := snd 2) rfl (N_snd 2)) $$ [HO Hd2]
  · isplitr; · iapply (inv_at m K c 2); iexact HI
    isplitl [HO]; · iexact HO
    iexact Hd2
  iintro ⟨⟨%W6, HO⟩, Hs2, Has2, Hd2⟩
  sl_exec
  iapply (wait_rcv m K c 2 _ (dst := rcv 2) rfl (N_eq 2)) $$ [HO Hd2]
  · isplitr; · iapply (inv_at m K c 2); iexact HI
    isplitl [HO] <;> iassumption
  iintro ⟨⟨%W7, HO⟩, Hw2, Har2⟩
  ihave Hw2 := (Entails.of_eq (rcv_pts m c).2.2.1) $$ Hw2
  sl_exec
  iapply (wait_snd m K c 3 _ (dst := snd 3) rfl (N_snd 3)) $$ [HO Hd3]
  · isplitr; · iapply (inv_at m K c 3); iexact HI
    isplitl [HO]; · iexact HO
    iexact Hd3
  iintro ⟨⟨%W8, HO⟩, Hs3, Has3, Hd3⟩
  sl_exec
  iapply (wait_rcv m K c 3 _ (dst := rcv 3) rfl (N_eq 3)) $$ [HO Hd3]
  · isplitr; · iapply (inv_at m K c 3); iexact HI
    isplitl [HO] <;> iassumption
  iintro ⟨⟨%W9, HO⟩, Hw3, Har3⟩
  ihave Hw3 := (Entails.of_eq (rcv_pts m c).2.2.2.1) $$ Hw3
  sl_exec
  iapply (wait_snd m K c 4 _ (dst := snd 4) rfl (N_snd 4)) $$ [HO Hd4]
  · isplitr; · iapply (inv_at m K c 4); iexact HI
    isplitl [HO]; · iexact HO
    iexact Hd4
  iintro ⟨⟨%W10, HO⟩, Hs4, Has4, Hd4⟩
  sl_exec
  iapply (wait_rcv m K c 4 _ (dst := rcv 4) rfl (N_eq 4)) $$ [HO Hd4]
  · isplitr; · iapply (inv_at m K c 4); iexact HI
    isplitl [HO] <;> iassumption
  iintro ⟨⟨%W11, HO⟩, Hw4, Har4⟩
  ihave Hw4 := (Entails.of_eq (rcv_pts m c).2.2.2.2.1) $$ Hw4
  sl_exec
  iapply (wait_snd m K c 5 _ (dst := snd 5) rfl (N_snd 5)) $$ [HO Hd5]
  · isplitr; · iapply (inv_at m K c 5); iexact HI
    isplitl [HO]; · iexact HO
    iexact Hd5
  iintro ⟨⟨%W12, HO⟩, Hs5, Has5, Hd5⟩
  sl_exec
  iapply (wait_rcv m K c 5 _ (dst := rcv 5) rfl (N_eq 5)) $$ [HO Hd5]
  · isplitr; · iapply (inv_at m K c 5); iexact HI
    isplitl [HO] <;> iassumption
  iintro ⟨⟨%W13, HO⟩, Hw5, Har5⟩
  ihave Hw5 := (Entails.of_eq (rcv_pts m c).2.2.2.2.2.1) $$ Hw5
  sl_exec
  iapply (wait_snd m K c 6 _ (dst := snd 6) rfl (N_snd 6)) $$ [HO Hd6]
  · isplitr; · iapply (inv_at m K c 6); iexact HI
    isplitl [HO]; · iexact HO
    iexact Hd6
  iintro ⟨⟨%W14, HO⟩, Hs6, Has6, Hd6⟩
  sl_exec
  iapply (wait_rcv m K c 6 _ (dst := rcv 6) rfl (N_eq 6)) $$ [HO Hd6]
  · isplitr; · iapply (inv_at m K c 6); iexact HI
    isplitl [HO] <;> iassumption
  iintro ⟨⟨%W15, HO⟩, Hw6, Har6⟩
  ihave Hw6 := (Entails.of_eq (rcv_pts m c).2.2.2.2.2.2.1) $$ Hw6
  sl_exec
  iapply (wait_snd m K c 7 _ (dst := snd 7) rfl (N_snd 7)) $$ [HO Hd7]
  · isplitr; · iapply (inv_at m K c 7); iexact HI
    isplitl [HO]; · iexact HO
    iexact Hd7
  iintro ⟨⟨%W16, HO⟩, Hs7, Has7, Hd7⟩
  sl_exec
  iapply (wait_rcv m K c 7 _ (dst := rcv 7) rfl (N_eq 7)) $$ [HO Hd7]
  · isplitr; · iapply (inv_at m K c 7); iexact HI
    isplitl [HO] <;> iassumption
  iintro ⟨⟨%W17, HO⟩, Hw7, Har7⟩
  ihave Hw7 := (Entails.of_eq (rcv_pts m c).2.2.2.2.2.2.2) $$ Hw7
  sl_exec
  ihave Hoh0 := (Entails.of_eq (out_win m c wr0 (fun _ => rfl) squeezes_S1x4x64x512_S4x64x512 0 0 1 2 3 rfl rfl rfl wr0_at fo f3 f0 (run.sl.Hov0_4 m c f0) rfl (run.sl.dma12 m c f0 f3) rfl)) $$ Hoh0
  ihave Hoh1 := (Entails.of_eq (out_win m c wr1 (fun _ => rfl) squeezes_S1x4x64x512_S4x64x512 0 4 5 6 7 rfl rfl rfl wr1_at fo f3 f0 (run.sl.Hov1_4 m c f0) rfl (run.sl.dma12_1 m c f0 f3) rfl)) $$ Hoh1
  ihave Hoh2 := (Entails.of_eq (out_win m c wr2 (fun _ => rfl) squeezes_S1x4x64x512_S4x64x512 1 0 1 2 3 rfl rfl rfl wr2_at fo f3 f0 (run.sl.Hov2_4 m c f0) rfl (run.sl.dma12_2 m c f0 f3) rfl)) $$ Hoh2
  ihave Hoh3 := (Entails.of_eq (out_win m c wr3 (fun _ => rfl) squeezes_S1x4x64x512_S4x64x512 1 4 5 6 7 rfl rfl rfl wr3_at fo f3 f0 (run.sl.Hov3_4 m c f0) rfl (run.sl.dma12_3 m c f0 f3) rfl)) $$ Hoh3
  rw [wp_ret]
  ihave Hoh := (four_back ohM c fullShare (OUT m c)) $$ [Hoh0 Hoh1 Hoh2 Hoh3]
  · isplitl [Hoh0]; · iexact Hoh0
    isplitl [Hoh1]; · iexact Hoh1
    isplitl [Hoh2] <;> iassumption
  ihave Hov := (four_join ovM c fullShare _ _ _ _) $$ [Hov0 Hov1 Hov2 Hov3]
  · isplitl [Hov0]; · iexact Hov0
    isplitl [Hov1]; · iexact Hov1
    isplitl [Hov2] <;> iassumption
  ihave Hkv := (two_join kvM c fullShare _ _) $$ [Hkv0 Hkv1]
  · isplitl [Hkv0] <;> iassumption
  ihave Hvv := (two_join vvM c fullShare _ _) $$ [Hvv0 Hvv1]
  · isplitl [Hvv0] <;> iassumption
  ihave Hkr := (four_back krM c fullShare (KS m (nbr c))) $$ [Hw0 Hw2 Hw4 Hw6]
  · isplitl [Hw0]; · iexact Hw0
    isplitl [Hw2]; · iexact Hw2
    isplitl [Hw4] <;> iassumption
  ihave Hvr := (four_back vrM c fullShare (VS m (nbr c))) $$ [Hw1 Hw3 Hw5 Hw7]
  · isplitl [Hw1]; · iexact Hw1
    isplitl [Hw3]; · iexact Hw3
    isplitl [Hw5] <;> iassumption
  ihave Hs0 := (Entails.of_eq (snd_pts m c hL).1) $$ Hs0
  ihave Hs1 := (Entails.of_eq (snd_pts m c hL).2.1) $$ Hs1
  ihave Hs2 := (Entails.of_eq (snd_pts m c hL).2.2.1) $$ Hs2
  ihave Hs3 := (Entails.of_eq (snd_pts m c hL).2.2.2.1) $$ Hs3
  ihave Hs4 := (Entails.of_eq (snd_pts m c hL).2.2.2.2.1) $$ Hs4
  ihave Hs5 := (Entails.of_eq (snd_pts m c hL).2.2.2.2.2.1) $$ Hs5
  ihave Hs6 := (Entails.of_eq (snd_pts m c hL).2.2.2.2.2.2.1) $$ Hs6
  ihave Hs7 := (Entails.of_eq (snd_pts m c hL).2.2.2.2.2.2.2) $$ Hs7
  ihave Hks := (halves ksM c (KS m c)) $$ [Hs0 Hs2 Hs4 Hs6 Hk]
  · isplitr [Hk]
    · isplitl [Hs0]; · iexact Hs0
      isplitl [Hs2]; · iexact Hs2
      isplitl [Hs4] <;> iassumption
    · iexact Hk
  ihave Hvs := (halves vsM c (VS m c)) $$ [Hs1 Hs3 Hs5 Hs7 Hv]
  · isplitr [Hv]
    · isplitl [Hs1]; · iexact Hs1
      isplitl [Hs3]; · iexact Hs3
      isplitl [Hs5] <;> iassumption
    · iexact Hv
  ihave Hat := (Entails.of_eq (eight (fun i : Fin 8 => iprop(atPos ER (sndCell c i) (0 + 1) ∅ 0 ∗ atPos ER (rcvCell c i) (0 + 1) ∅ 0))).symm) $$ [Has0 Has1 Has2 Has3 Has4 Has5 Has6 Has7 Har0 Har1 Har2 Har3 Har4 Har5 Har6 Har7]
  · isplitl [Has0 Har0]; · isplitl [Has0] <;> iassumption
    isplitl [Has1 Har1]; · isplitl [Has1] <;> iassumption
    isplitl [Has2 Har2]; · isplitl [Has2] <;> iassumption
    isplitl [Has3 Har3]; · isplitl [Has3] <;> iassumption
    isplitl [Has4 Har4]; · isplitl [Has4] <;> iassumption
    isplitl [Has5 Har5]; · isplitl [Has5] <;> iassumption
    isplitl [Has6 Har6]; · isplitl [Has6] <;> iassumption
    isplitl [Has7] <;> iassumption
  imod (shut m K c) $$ [Hat] with He
  · isplitr; · iexact HI
    iexact Hat
  ihave #Hib := (inv_bar m K c) $$ HI
  imod (close m (K (barCell c)) (barCell c)) $$ [Hab] with Hb
  · isplitr; · iexact Hib
    iexact Hab
  imodintro
  iapply Hend
  unfold done hosts scr locs any
  isplitl [Hb]; · iexact Hb
  isplitl [He]; · iexact He
  isplitl [Hl0 Hl1 Hl2 Hl3 Hl4 Hl5 Hl6 Hl7 Hl8]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7] <;> iassumption
  isplitl [Hqh Hkh Hvh Hoh]
  · isplitl [Hqh]; · iexact Hqh
    isplitl [Hkh]; · iexact Hkh
    isplitl [Hvh] <;> iassumption
  isplitr [HO]
  · isplitl [Hqv]
    · iexists _; iapply (Entails.of_eq (congrArg (fun S => (qvM.view.loc (c : Thread nD τ) ↦[S]{fullShare} _ : sProp 𝕄)) (View.set_whole cc0_scratch0)).symm); iexact Hqv
    isplitl [Hkv]; · iexact Hkv
    isplitl [Hvv]; · iexact Hvv
    isplitl [Hov]; · iexact Hov
    isplitl [Hks]; · iexact Hks
    isplitl [Hvs]; · iexact Hvs
    isplitl [Hkr]; · iexists _; iexact Hkr
    iexists _; iexact Hvr
  iexists _; iexact HO

end Cert.KernelIdeal.Talk

end
-- ==== Proof.Region.lean ====
/-
  The kernel's call as a region of the program: what enters and leaves it, the body's obligation, and the
  record the launch threads between the host's operations.
-/
module

public import proofs.«01_k».proof.Proof.Run
public import proofs.«01_k».proof.Proof.Gen.KernelIdeal.Frame

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The counters that belong to the call: of the copies within the device, of departures, of arrivals. -/
noncomputable abbrev own : Fin 9 ⊕ (Fin 8 ⊕ Fin 8) → SemLoc sig :=
  Sum.elim (fun i => .dma (locS i)) (Sum.elim (fun i => .dma (sndS i)) (fun i => .dma (rcvS i)))

/-- They are scoped to the call, pairwise distinct, and no window's. -/
theorem own_facts : Pipeline.OwnSemFacts cfg0.spec own := ⟨by decide, by decide, fun _ w => w.elim0⟩

/-- A family over nine, listed. -/
theorem nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} from by decide, bigSep_insert (by decide), bigSep_insert (by decide), bigSep_insert (by decide),
    bigSep_insert (by decide), bigSep_insert (by decide), bigSep_insert (by decide), bigSep_insert (by decide), bigSep_insert (by decide), bigSep_singleton]
  rfl

/-- A family of pairs is a pair of families. -/
theorem zip {I : Type} (S : Finset I) (Φ Ψ : I → sProp 𝕄) : iprop(bigSep S Φ ∗ bigSep S Ψ) ⊢ bigSep S fun i => iprop(Φ i ∗ Ψ i) :=
  Entails.of_eq (bigSep_sep' S Φ Ψ).symm
theorem unzip {I : Type} (S : Finset I) (Φ Ψ : I → sProp 𝕄) : (bigSep S fun i => iprop(Φ i ∗ Ψ i)) ⊢ iprop(bigSep S Φ ∗ bigSep S Ψ) :=
  Entails.of_eq (bigSep_sep' S Φ Ψ)

/-- The call's counters at zero, sorted. -/
theorem own_eq (c : Dev nD) : (Pipeline.ownSems0 own c : sProp 𝕄) = iprop(locs c ∗ ends c) := by
  unfold Pipeline.ownSems0 ends
  rw [bigSep_univ_sum, bigSep_univ_sum, bigSep_sep', nine]
  rfl

/-- The buffers the body addresses. -/
noncomputable def four4 : Finset (DevRef τ sig) := {Proc.devRef .tc main_v1, Proc.devRef .tc main_v2, Proc.devRef .tc main_v3, Proc.devRef .tc main_v4}
/-- All the program's buffers that outlive the call. -/
noncomputable abbrev bufs : Finset (DevRef τ sig) := Pipeline.ucRefs τ sig
theorem four4_sub : four4 ⊆ bufs := by decide

/-- What the buffers hold after the call: the result array rewritten, the rest as found. -/
noncomputable abbrev V₂ (c : Dev nD) : Valuation τ sig (Elt F) := Function.update (V₁ m c) (Proc.devRef .tc main_v4) (OUT m c)
/-- And at the end of the program. -/
noncomputable abbrev V₃ (c : Dev nD) : Valuation τ sig (Elt F) := StableHlo.after hostOps1 (V₂ m c)

theorem V₂_out (c : Dev nD) : V₂ m c main_v4 = OUT m c := Function.update_self ..
theorem V₂_off (c : Dev nD) (b : DevRef τ sig) (h : b ≠ Proc.devRef .tc main_v4) : V₂ m c b = V₁ m c b := Function.update_of_ne h ..

/-- The addressed buffers held at a valuation, listed. -/
theorem held_four (c : Dev nD) (W : Valuation τ sig (Elt F)) : (StableHlo.held (c : Thread nD τ) four4 W : sProp 𝕄)
    = iprop((qhM.view.loc (c : Thread nD τ) ↦{fullShare} W main_v1) ∗ (khM.view.loc (c : Thread nD τ) ↦{fullShare} W main_v2)
      ∗ (vhM.view.loc (c : Thread nD τ) ↦{fullShare} W main_v3) ∗ (ohM.view.loc (c : Thread nD τ) ↦{fullShare} W main_v4)) := by
  unfold StableHlo.held
  rw [bigSep_eq_bigSepL_of_eq [Proc.devRef .tc main_v1, Proc.devRef .tc main_v2, Proc.devRef .tc main_v3, Proc.devRef .tc main_v4] (by decide) (by decide)]
  rfl

/-- Before the call they are the arrays as found, whatever the result array held. -/
theorem hosts_in (c : Dev nD) : (StableHlo.held (c : Thread nD τ) four4 (V₁ m c) : sProp 𝕄) = hosts m c (V₁ m c main_v4) := by
  rw [held_four]; unfold hosts; rw [View.set_whole]; rfl
/-- After it, the result array is written. -/
theorem hosts_out (c : Dev nD) : (hosts m c (OUT m c) : sProp 𝕄) = StableHlo.held (c : Thread nD τ) four4 (V₂ m c) := by
  rw [held_four, V₂_off m c main_v1 (by decide), V₂_off m c main_v2 (by decide), V₂_off m c main_v3 (by decide), V₂_out]
  unfold hosts; rw [View.set_whole]; rfl

/-- The scratch buffers are the scoped buffers of the call. -/
theorem scr_eq (c : Dev nD) : (Pipeline.scopedRest (Ix := Unit) (Name := ℕ) (U := UU) (Lvl := ℕ) (Val := Elt F) cfg0.spec c : sProp 𝕄) = scr c := by
  rw [scopedRest0_eq]
  unfold scr any
  rw [View.set_whole, View.set_whole, View.set_whole, View.set_whole, View.set_whole, View.set_whole, View.set_whole, View.set_whole]

/-- What enters the call beside the buffers, and what it gives back beside them. -/
def X1 (c : Dev nD) : sProp 𝕄 := iprop((∃ K, opened m K c) ∗ locs c ∗ levAts L lv)

/-- The call's one point: before it everything is owed, after it nothing. -/
noncomputable def dat (c : Dev nD) : Dat τ (Elt F) Unit ℕ UU ℕ cfg0 c where
  A w := w.elim0
  after w := w.elim0
  Φ t := if t.val = 0 then iprop(X1 m c ∗ hosts m c (V₁ m c main_v4) ∗ scr c ∗ ∃ r, prngReg c r)
    else iprop((semVal (barCell c) 0 ∗ locs c ∗ ends c) ∗ hosts m c (OUT m c) ∗ scr c ∗ ∃ r, prngReg c r)
  q w := w.elim0
  owed t := if t.val = 0 then O₀ c else 0

noncomputable abbrev adm : (p : Fin 1) → (pcfgs (F := F) p).Adm := fun p => (cfgs p).toPCfg_adm
noncomputable def pdats : (p : Fin 1) → (c : Dev nD) → Dat τ (Elt F) Unit ℕ UU ℕ (Pipeline.pin (pcfgs (F := F)) adm p) c
  | 0 => dat m

theorem no_windows {M : Type} [URA M] (Φ : Fin 0 → sProp M) : bigSep Finset.univ Φ = (BI.emp : sProp M) :=
  bigSep_univ_eq_bigSepL [] (by decide) (by decide) Φ

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- The debt at a point, from and to the plain form. -/
theorem debt_in {cfg : Pipeline.Cfg sig Λ₀} {c : Dev nD} (d : Dat τ (Elt F) Unit ℕ UU ℕ cfg c) (t : Fin (cfg.N + 1))
    (O : CellTallies nD τ sig Unit) (h0 : d.owed t = O) (hr : d.recorded t = Set.univ) (W : Waits sig Unit) :
    (owes (c : Thread nD τ) O W : sProp 𝕄) ⊢ d.owesAt () t := by
  unfold Dat.owesAt Pipeline.owesWithin Dat.bound; rw [h0, hr]
  iintro HO; iexists W; isplitr; · ipureintro; exact fun _ _ => Or.inl trivial
  iexact HO
theorem debt_out {cfg : Pipeline.Cfg sig Λ₀} {c : Dev nD} (d : Dat τ (Elt F) Unit ℕ UU ℕ cfg c) (t : Fin (cfg.N + 1))
    (O : CellTallies nD τ sig Unit) (h0 : d.owed t = O) :
    d.owesAt () t ⊢ (iprop(∃ W, owes (c : Thread nD τ) O W) : sProp 𝕄) := by
  unfold Dat.owesAt Pipeline.owesWithin; rw [h0]
  iintro ⟨%W, -, HO⟩; iexists W; iexact HO

/-- The body at the call's point. -/
theorem body (c : Dev nD) : BodyObligation (dat m c) defs₀ 𝒱₀ () Set.univ := fun t => by
  obtain rfl := fin_N0 t
  rw [no_windows, no_windows]
  rw [show (dat m c).Φ t0_0.castSucc = iprop(X1 m c ∗ hosts m c (V₁ m c main_v4) ∗ scr c ∗ ∃ r, prngReg c r) from rfl,
    show (dat m c).Φ t0_0.succ = iprop((semVal (barCell c) 0 ∗ locs c ∗ ends c) ∗ hosts m c (OUT m c) ∗ scr c ∗ ∃ r, prngReg c r) from rfl]
  unfold X1
  iintro ⟨⟨⟨⟨%K, Hg⟩, Hl, Hlev⟩, Hh, Hs, Hp⟩, HO, -⟩
  ihave HO := (debt_out (dat m c) _ (O₀ c) (owed_first m c)) $$ HO
  icases HO with ⟨%W, HO⟩
  iapply (run m K c W (V₁ m c main_v4) _)
  isplitr [Hp]
  · isplitl [Hg]; · iexact Hg
    isplitl [Hlev]; · iexact Hlev
    isplitl [HO]; · iexact HO
    isplitl [Hh]; · iexact Hh
    isplitl [Hs] <;> iassumption
  unfold done
  iintro ⟨Hb, He, Hl, Hh, Hs, ⟨%W', HO⟩⟩
  isplitr [HO]
  · isplitl [Hb He Hl]
    · isplitl [Hb]; · iexact Hb
      isplitl [Hl] <;> iassumption
    isplitl [Hh]; · iexact Hh
    isplitl [Hs] <;> iassumption
  isplitl [HO]; · iapply (debt_in (dat m c) t0_0.succ 0 (owed_last m c) rfl W'); iexact HO
  iempintro

/-! ## The region -/

/-- What rides from launch to the call: the ghost state and the credits. -/
def Tk (c : Dev nD) : sProp 𝕄 := iprop((∃ K, ghost m K c) ∗ creds c)

/-- At the call's entry the transfers' cells are opened with their counters. -/
theorem enter (c : Dev nD) : iprop(Tk m c ∗ Pipeline.ownSems0 own c ∗ levAts L lv) ⊢ (|={Set.univ}=> X1 m c : sProp 𝕄) := by
  have one (K : GSem nD τ sig → ℕ) (i : Fin 8) :
      iprop(invs m K c ∗ (((openTok ER (sndCell c i) ∗ openTok ER (rcvCell c i)) ∗ (dutyTok ER (sndCell c i) 0 () ∗ dutyTok ER (rcvCell (nbr c) i) 0 ()))
          ∗ (semVal (sndCell c i) 0 ∗ semVal (rcvCell c i) 0)) ∗ cred (tallyAt (rcvCell c i) () N))
        ⊢ (|={Set.univ}=> iprop(reached ER (rcvCell c i) 0 ∗ ready c i) : sProp 𝕄) := by
    unfold ready
    iintro ⟨#HI, ⟨⟨⟨Hos, Hor⟩, Ht⟩, Hs, Hr⟩, Hc⟩
    ihave #H1 := (inv_at m K c i) $$ HI
    unfold inv1
    icases H1 with ⟨#Hi, #Hj, -⟩
    imod (Rounds.cell_open ER (Rd m) (g := sndCell c i) (Set.mem_univ (K (sndCell c i)))) $$ [Hos Hs] with ⟨Has, #Hrs⟩
    · isplitr; · iexact Hi
      isplitl [Hos] <;> iassumption
    imod (Rounds.cell_open ER (Rd m) (g := rcvCell c i) (Set.mem_univ (K (rcvCell c i)))) $$ [Hor Hr] with ⟨Har, #Hrr⟩
    · isplitr; · iexact Hj
      isplitl [Hor] <;> iassumption
    imodintro
    isplitr; · iexact Hrr
    isplitl [Has Har]; · isplitl [Has] <;> iassumption
    isplitl [Ht]; · iexact Ht
    isplitr; · iexact Hrs
    iexact Hc
  have all (K : GSem nD τ sig → ℕ) :=
    (bigSep_with_persistent (S := Finset.univ) (R := invs m K c) fun i _ => one K i).trans (bigSep_fupd _ _)
  rw [own_eq]
  unfold Tk X1 ghost creds ends opened
  iintro ⟨⟨⟨%K, #HI, Hab, #Hrb, Htb, Ht⟩, Hcb, Hcr⟩, ⟨Hl, He⟩, #Hlev⟩
  imod (all K) $$ [Ht He Hcr] with H
  · isplitr; · iexact HI
    iapply (zip Finset.univ _ _)
    isplitr [Hcr]
    · iapply (zip Finset.univ _ _)
      isplitl [Ht] <;> iassumption
    iexact Hcr
  ihave H := (unzip Finset.univ _ _) $$ H
  icases H with ⟨Hr, Hd⟩
  imodintro
  isplitr [Hl]
  · iexists K
    isplitr; · iexact HI
    isplitl [Hab]; · iexact Hab
    isplitr; · iexact Hrb
    isplitl [Htb]; · iexact Htb
    isplitl [Hcb]; · iexact Hcb
    isplitl [Hr] <;> iassumption
  isplitl [Hl]; · iexact Hl
  iexact Hlev

/-- Everything owed at launch sits on arrival and barrier cells, above the level zero. -/
theorem O₀_pos {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨i, rfl⟩ := Owe_pos h
    exact ⟨by rw [L_tc]; exact Finset.mem_singleton_self _, by rw [lv_rcv]; decide⟩
  · rw [tallyAt_apply] at h
    split at h
    · next hg =>
      obtain ⟨rfl, -⟩ := hg
      exact ⟨by rw [L_tc]; exact Finset.mem_singleton_self _, by rw [lv_bar]; decide⟩
    · exact absurd h (Nat.lt_irrefl 0)

theorem cut (c : Dev nD) (t : Fin ((Pipeline.pin (pcfgs (F := F)) adm 0).N + 1)) (g : GSem nD τ sig) (u : Unit) (h : 0 < (pdats m 0 c).owed t g u) :
    u ∈ L g ∧ (0 : ℕ) < lv g u := by
  have e : (pdats m 0 c).owed t = if t.val = 0 then O₀ c else 0 := rfl
  rw [e] at h
  split at h
  · exact O₀_pos h
  · exact absurd h (Nat.lt_irrefl 0)

theorem point_in (c : Dev nD) : iprop(Pipeline.scopedRest (Pipeline.pin (pcfgs (F := F)) adm 0).spec c ∗ (∃ r, prngReg c r)
      ∗ StableHlo.held (c.tc : Thread nD τ) four4 (V₁ m c) ∗ X1 m c) ⊢ (pdats m 0 c).Φ 0 := by
  rw [show (pdats m 0 c).Φ 0 = iprop(X1 m c ∗ hosts m c (V₁ m c main_v4) ∗ scr c ∗ ∃ r, prngReg c r) from rfl, hosts_in,
    show (Pipeline.scopedRest (Pipeline.pin (pcfgs (F := F)) adm 0).spec c : sProp 𝕄) = scr c from scr_eq c]
  iintro ⟨Hs, Hp, Hh, HX⟩
  isplitl [HX]; · iexact HX
  isplitl [Hh]; · iexact Hh
  isplitl [Hs] <;> iassumption

theorem point_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) four4 (V₂ m c) ∗ Pipeline.ownSems0 own c ∗ semVal (barCell c) 0) := by
  rw [show (pdats m 0 c).Φ (Fin.last _) = iprop((semVal (barCell c) 0 ∗ locs c ∗ ends c) ∗ hosts m c (OUT m c) ∗ scr c ∗ ∃ r, prngReg c r) from rfl,
    hosts_out, own_eq, show (Pipeline.scopedRest (Pipeline.pin (pcfgs (F := F)) adm 0).spec c : sProp 𝕄) = scr c from scr_eq c]
  iintro ⟨⟨Hb, He⟩, Hh, Hs, Hp⟩
  isplitl [Hs]; · iexact Hs
  isplitl [Hp]; · iexact Hp
  isplitl [Hh]; · iexact Hh
  isplitl [He] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

set_option backward.isDefEq.respectTransparency.types false in
/-- The call as a region that talks across devices. -/
noncomputable def reg : Pipeline.RegionSeg (pcfgs (F := F)) adm (pdats m) () defs₀ 𝒱₀ L lv 0 :=
  Pipeline.RegionSeg.ofTalk (pcfgs (F := F)) adm (pdats m) () defs₀ 𝒱₀ L lv 0 own own_facts
    four4 bufs four4_sub kitP rfl (fun c => (body m c).loose)
    (fun _ => 0) O₀ (fun c => (owed_zero m c).trans (zero_add _).symm) (owed_last m) (fun _ => rfl) (fun _ w => w.elim0)
    (V₁ m) (V₂ m) (fun c b hb => V₂_off m c b fun e => (Finset.mem_sdiff.mp hb).2 (by subst e; unfold four4; simp))
    (Tk m) (fun c => semVal (barCell c) 0) (X1 m) (fun c => semVal (barCell c) 0) (enter m) (point_in m) (point_out m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

end Cert.KernelIdeal.Talk

end
-- ==== Proof.Launch.lean ====
/-
  The launch: every cell's invariant made, the transfers' cells not yet opened, the duties handed to the
  device that pays them; the program's run from any memory.
-/
module

public import proofs.«01_k».proof.Proof.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

/-- What rides beside the buffers before the call, and after it. -/
def R0 (c : Dev nD) : sProp 𝕄 := iprop((Tk m c ∗ ∃ r, prngReg c r) ∗ ∃ W, owes (c : Thread nD τ) (O₀ c) W)
def R1 (c : Dev nD) : sProp 𝕄 := iprop(semVal (barCell c) 0 ∗ ∃ W, owes (c : Thread nD τ) (0 : CellTallies nD τ sig Unit) W)

/-- The transposes before the call, and the one after it. -/
noncomputable def seg0 : Pipeline.HostSeg (Name := ℕ) (U := UU) (pcfgs (F := F)) defs₀ 𝒱₀ L lv :=
  Pipeline.HostSeg.ofOps _ _ _ _ _ bufs hostOps0 (fun op h => Pipeline.sub_ucRefs op ((List.forall_iff_forall_mem.mp hostOps0_sub) op h))
    (List.forall_iff_forall_mem.mp hostOps0_fresh) (V₀ m) (R0 m)
noncomputable def seg1 : Pipeline.HostSeg (Name := ℕ) (U := UU) (pcfgs (F := F)) defs₀ 𝒱₀ L lv :=
  Pipeline.HostSeg.ofOps _ _ _ _ _ bufs hostOps1 (fun op h => Pipeline.sub_ucRefs op ((List.forall_iff_forall_mem.mp hostOps1_sub) op h))
    (List.forall_iff_forall_mem.mp hostOps1_fresh) (V₂ m) R1

/-- The program has no window: no array of its own is held for the pipeline. -/
theorem no_arrays (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  exact BI.bigSep_empty

theorem reg_pre (c : Dev nD) : iprop(StableHlo.held (c : Thread nD τ) bufs (V₁ m c) ∗ R0 m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ Tk m c ∗ ∃ Wd, owes (c : Thread nD τ) (0 + O₀ c) Wd)
  rw [no_arrays, zero_add]
  unfold R0
  iintro ⟨Hh, ⟨HT, Hp⟩, HO⟩
  isplitr; · iempintro
  isplitl [Hp]; · iexact Hp
  isplitl [Hh]
  · isplitl [Hh]; · iexact Hh
    iempintro
  isplitl [HT] <;> iassumption

theorem reg_post (c : Dev nD) : (reg m).post c ⊢ iprop(StableHlo.held (c : Thread nD τ) bufs (V₂ m c) ∗ R1 c) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ semVal (barCell c) 0 ∗ ∃ Wd, owes (c : Thread nD τ) (0 : CellTallies nD τ sig Unit) Wd) ⊢ _
  rw [no_arrays]
  unfold R1
  iintro ⟨-, -, ⟨Hh, -⟩, Hb, HO⟩
  isplitl [Hh]; · iexact Hh
  isplitl [Hb] <;> iassumption

/-- The program as its segments. -/
noncomputable def segs : List (Pipeline.Seg (pcfgs (F := F)) adm (pdats m) () defs₀ 𝒱₀ L lv) :=
  [.host (seg0 m), .region (reg m), .host (seg1 m)]
theorem main_eq (c : Dev nD) : main (F := F) c = Pipeline.Seg.run (segs m) :=
  main_segs adm (pdats m) () 𝒱₀ L lv (seg0 m) (seg1 m) (reg m) rfl rfl c

/-! ## The cells and their duties -/

/-- The semaphore of each transfer's departure and arrival. -/
noncomputable abbrev tsem : Fin 8 ⊕ Fin 8 → SemLoc sig := Sum.elim (fun i => .dma (sndS i)) (fun i => .dma (rcvS i))
theorem tsem_inj : Function.Injective tsem := by decide
theorem tsem_ne : ∀ k, tsem k ≠ .reg barS := by decide
/-- With the barrier's. -/
noncomputable abbrev asem : Unit ⊕ (Fin 8 ⊕ Fin 8) → SemLoc sig := Sum.elim (fun _ => .reg barS) tsem
theorem asem_inj : Function.Injective asem := by decide

noncomputable def barEmb : Dev nD ↪ GSem nD τ sig := ⟨fun c => barCell c, fun _ _ h => congrArg (fun g : GSem nD τ sig => g.1.1) h⟩
noncomputable def trEmb : Dev nD × (Fin 8 ⊕ Fin 8) ↪ GSem nD τ sig :=
  ⟨fun ck => ((ck.1 : Thread nD τ), tsem ck.2), fun _ _ h =>
    Prod.ext (congrArg (fun g : GSem nD τ sig => g.1.1) h) (tsem_inj (congrArg Prod.snd h))⟩
noncomputable def tokEmb : Dev nD × (Unit ⊕ (Fin 8 ⊕ Fin 8)) ↪ GSem nD τ sig × ℕ × Unit :=
  ⟨fun ck => (((ck.1 : Thread nD τ), asem ck.2), 0, ()), fun _ _ h =>
    Prod.ext (congrArg (fun t : GSem nD τ sig × ℕ × Unit => t.1.1.1) h) (asem_inj (congrArg (fun t : GSem nD τ sig × ℕ × Unit => t.1.2) h))⟩

noncomputable abbrev barCells : Finset (GSem nD τ sig) := Finset.univ.map barEmb
noncomputable abbrev trCells : Finset (GSem nD τ sig) := Finset.univ.map trEmb
noncomputable abbrev talkToks : Finset (GSem nD τ sig × ℕ × Unit) := Finset.univ.map tokEmb

theorem disjoint_cells : Disjoint (barCells : Finset (GSem nD τ sig)) trCells := by
  rw [Finset.disjoint_left]
  rintro g h₁ h₂
  obtain ⟨c, -, rfl⟩ := Finset.mem_map.mp h₁
  obtain ⟨ck, -, h⟩ := Finset.mem_map.mp h₂
  exact tsem_ne ck.2 (congrArg Prod.snd h)

theorem bar_mem (c : Dev nD) : barCell c ∈ (barCells ∪ trCells : Finset (GSem nD τ sig)) :=
  Finset.mem_union_left _ (Finset.mem_map_of_mem barEmb (Finset.mem_univ c))
theorem snd_mem (c : Dev nD) (i : Fin 8) : sndCell c i ∈ (barCells ∪ trCells : Finset (GSem nD τ sig)) :=
  Finset.mem_union_right _ (Finset.mem_map_of_mem trEmb (Finset.mem_univ (c, Sum.inl i)))
theorem rcv_mem (c : Dev nD) (i : Fin 8) : rcvCell c i ∈ (barCells ∪ trCells : Finset (GSem nD τ sig)) :=
  Finset.mem_union_right _ (Finset.mem_map_of_mem trEmb (Finset.mem_univ (c, Sum.inr i)))

/-- The launch element: the pipeline library's, the exchange's, and no copy counted yet. -/
noncomputable def u₀ : UU :=
  (initOf (Pipeline.cells (Pipeline.pin (pcfgs (F := F)) adm) cellOf_inj) (Pipeline.launchToks (Pipeline.pin (pcfgs (F := F)) adm) cellOf_inj),
    (launchOf barCells trCells talkToks, 1))

/-- The exchange's launch element, all of it on device 0. -/
noncomputable def G (c : Dev nD) : sProp 𝕄 := if c = 0 then BI.own (ER (launchOf barCells trCells talkToks)) else iprop(emp)
theorem G_all : bigSep Finset.univ (G (F := F)) = BI.own (ER (launchOf barCells trCells talkToks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants under one map of names; that round 0 of every barrier cell is reached. -/
def records (κ : GSem nD τ sig → ℕ) : sProp 𝕄 :=
  iprop((bigSep (barCells ∪ trCells) fun g => cellInv ER (Rd m) (κ g) g) ∗ bigSep barCells fun g => reached ER g 0)
instance records_persistent (κ : GSem nD τ sig → ℕ) : BI.Persistent (records m κ) := by unfold records; infer_instance

/-- The record of one cell. -/
theorem rec_at (κ : GSem nD τ sig → ℕ) {g : GSem nD τ sig} (hg : g ∈ (barCells ∪ trCells : Finset (GSem nD τ sig))) :
    records m κ ⊢ cellInv ER (Rd m) (κ g) g := by
  unfold records
  exact sep_elim_left.trans (show _ ⊢ _ from bigSep_elim hg)
theorem rec_reached (κ : GSem nD τ sig → ℕ) (c : Dev nD) : records m κ ⊢ reached ER (barCell c) 0 := by
  unfold records
  exact sep_elim_right.trans (show _ ⊢ _ from bigSep_elim (Finset.mem_map_of_mem barEmb (Finset.mem_univ c)))

/-- What stays with a device: its barrier position, the rights to open its transfers' cells, the duties it pays. -/
def linear (c : Dev nD) : sProp 𝕄 :=
  iprop(atPos ER (barCell c) 0 ∅ 0 ∗ dutyTok ER (barCell (nbr c)) 0 ()
    ∗ bigSep Finset.univ fun i : Fin 8 => iprop((openTok ER (sndCell c i) ∗ openTok ER (rcvCell c i))
        ∗ (dutyTok ER (sndCell c i) 0 () ∗ dutyTok ER (rcvCell (nbr c) i) 0 ())))

theorem ghost_intro (κ : GSem nD τ sig → ℕ) (c : Dev nD) : iprop(records m κ ∗ linear c) ⊢ iprop(∃ K, ghost m K c) := by
  have hi (i : Fin 8) : records m κ ⊢ inv1 m κ c i := by
    unfold inv1
    iintro #H
    isplitr; · iapply (rec_at m κ (snd_mem c i)); iexact H
    isplitr; · iapply (rec_at m κ (rcv_mem c i)); iexact H
    iapply (rec_at m κ (rcv_mem (nbr c) i)); iexact H
  unfold linear ghost invs
  iintro ⟨#HR, Ha, Ht, Hd⟩
  iexists κ
  isplitr
  · isplitr
    · isplitr; · iapply (rec_at m κ (bar_mem c)); iexact HR
      iapply (rec_at m κ (bar_mem (nbr c))); iexact HR
    · iapply (bigSep_intro_persistent (R := records m κ) (S := Finset.univ) fun i _ => hi i); iexact HR
  isplitl [Ha]; · iexact Ha
  isplitr; · iapply (rec_reached m κ (nbr c)); iexact HR
  isplitl [Ht] <;> iassumption

/-- Each device's tokens, the barrier's and the arrivals' handed to the other device of the pair. -/
theorem toks_dealt : bigSep talkToks (fun x => (dutyTok ER x.1 x.2.1 x.2.2 : sProp 𝕄))
    = iprop((bigSep Finset.univ fun c : Dev nD => dutyTok ER (barCell (nbr c)) 0 ())
      ∗ bigSep Finset.univ fun c : Dev nD => bigSep Finset.univ fun i : Fin 8 => iprop(dutyTok ER (sndCell c i) 0 () ∗ dutyTok ER (rcvCell (nbr c) i) 0 ())) := by
  have h1 (c : Dev nD) : (bigSep Finset.univ fun k => (dutyTok ER (tokEmb (c, k)).1 (tokEmb (c, k)).2.1 (tokEmb (c, k)).2.2 : sProp 𝕄))
      = iprop(dutyTok ER (barCell c) 0 () ∗ (bigSep Finset.univ fun i : Fin 8 => dutyTok ER (sndCell c i) 0 ())
        ∗ bigSep Finset.univ fun i : Fin 8 => dutyTok ER (rcvCell c i) 0 ()) := by
    rw [bigSep_univ_sum, bigSep_univ_sum, bigSep_univ_of_subsingleton ()]; rfl
  rw [bigSep_map, bigSep_univ_prod, bigSep_congr fun c _ => h1 c, bigSep_sep', bigSep_sep',
    bigSep_univ_equiv ring (fun c : Dev nD => (dutyTok ER (barCell c) 0 () : sProp 𝕄)),
    bigSep_univ_equiv ring (fun c : Dev nD => (bigSep Finset.univ fun i : Fin 8 => dutyTok ER (rcvCell c i) 0 () : sProp 𝕄)),
    ← bigSep_sep']
  congr 1
  exact bigSep_congr fun c _ => (bigSep_sep' _ _ _).symm

/-- The rights to open, device by device. -/
theorem opens_dealt : bigSep trCells (fun g => (openTok ER g : sProp 𝕄))
    = bigSep Finset.univ fun c : Dev nD => bigSep Finset.univ fun i : Fin 8 => iprop(openTok ER (sndCell c i) ∗ openTok ER (rcvCell c i)) := by
  rw [bigSep_map, bigSep_univ_prod]
  refine bigSep_congr fun c _ => ?_
  rw [bigSep_univ_sum, bigSep_sep']; rfl

/-! ## The launch credit -/

theorem dev_eq {d c : Dev nD} {s t : SemLoc sig} (h : (((c : Thread nD τ), s) : GSem nD τ sig) = ((nbr d : Thread nD τ), t)) : d = nbr c :=
  by rw [← nbr_nbr d]; exact congrArg nbr (Fin.ext (congrArg (fun g : GSem nD τ sig => g.1.1.val) h)).symm

/-- The arrivals are not owed to a barrier cell. -/
theorem Owe_bar (d c : Dev nD) : Owe d 8 (barCell c) () = 0 := by
  by_contra h
  obtain ⟨i, hi⟩ := Owe_pos (Nat.pos_of_ne_zero h)
  exact rcv_ne_bar i (congrArg Prod.snd hi).symm

/-- Among the k last transfers, each arrival is owed once, to the other device of the pair. -/
theorem Owe_rcv (d c : Dev nD) (i : Fin 8) (k : ℕ) (hk : k ≤ 8) :
    Owe d k (rcvCell c i) () = if d = nbr c ∧ 8 ≤ i.val + k then N else 0 := by
  induction k with
  | zero =>
    rw [if_neg (fun h => by have := i.isLt; omega)]; rfl
  | succ k ih =>
    rw [Owe, Pi.add_apply, Finsupp.add_apply, ih (by omega), tallyAt_apply]
    have hv : (Fin.ofNat 8 (7 - k)).val = 7 - k := Nat.mod_eq_of_lt (by omega)
    have hi := i.isLt
    by_cases hd : d = nbr c
    · subst hd
      by_cases h : i.val + k = 7
      · have hi' : i = Fin.ofNat 8 (7 - k) := Fin.ext (by rw [hv]; omega)
        rw [if_neg (by omega), if_pos ⟨by rw [nbr_nbr, ← hi'], rfl⟩, if_pos ⟨rfl, by omega⟩, Nat.zero_add]
      · rw [if_neg (c := _ ∧ _ = ()) (fun hh => h (by
          have := SemLoc.dma.inj (congrArg Prod.snd hh.1)
          have h17 : 17 + i.val = 17 + (Fin.ofNat 8 (7 - k)).val := congrArg Fin.val this
          rw [hv] at h17; omega)), Nat.add_zero]
        by_cases h8 : 8 ≤ i.val + k
        · rw [if_pos ⟨rfl, h8⟩, if_pos ⟨rfl, by omega⟩]
        · rw [if_neg (fun hh => h8 hh.2), if_neg (fun hh => h8 (by have := hh.2; omega))]
    · rw [if_neg (fun h => hd h.1), if_neg (fun h => hd (dev_eq h.1)), if_neg (fun h => hd h.1)]

theorem owed_bar (d c : Dev nD) : O₀ d (barCell c) () = if d = nbr c then 1 else 0 := by
  unfold O₀
  rw [Pi.add_apply, Finsupp.add_apply, Owe_bar, tallyAt_apply, Nat.zero_add]
  by_cases h : d = nbr c
  · subst h; rw [nbr_nbr, if_pos ⟨rfl, rfl⟩, if_pos rfl]
  · rw [if_neg (fun hh => h (dev_eq hh.1)), if_neg h]
theorem owed_rcv (d c : Dev nD) (i : Fin 8) : O₀ d (rcvCell c i) () = if d = nbr c then N else 0 := by
  unfold O₀
  rw [Pi.add_apply, Finsupp.add_apply, Owe_rcv d c i 8 le_rfl, tallyAt_ne_cell (fun h => rcv_ne_bar i (congrArg Prod.snd h)), Finsupp.zero_apply, Nat.add_zero]
  by_cases h : d = nbr c
  · rw [if_pos ⟨h, by omega⟩, if_pos h]
  · rw [if_neg (fun hh => h hh.1), if_neg h]

/-- A cell owed k by the other device of the pair and nothing by the rest is launched with the credit k. -/
theorem credit_at (c : Dev nD) (sm : SemLoc sig) (k : ℕ) (h : ∀ d, O₀ d ((c : Thread nD τ), sm) () = if d = nbr c then k else 0) :
    tallyOn ((c : Thread nD τ), sm) (launchCredit (Pipeline.owing O₀) 0 ((c : Thread nD τ), sm)) = (tallyAt ((c : Thread nD τ), sm) () k : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (nbr c) fun _ => k,
    if_pos (Finset.mem_univ _)]

noncomputable def rcvEmb : Fin 8 ↪ SemLoc sig := ⟨fun i => .dma (rcvS i), by decide⟩

theorem creds_intro (c : Dev nD) : (Pipeline.launchCred O₀ c : sProp 𝕄) ⊢ creds c := by
  unfold Pipeline.launchCred creds
  rw [bigSep_univ_at _ (SemLoc.reg barS), credit_at c _ 1 (fun d => owed_bar d c)]
  refine sep_mono_right ?_
  refine (show _ ⊢ _ from bigSep_subset (t := Finset.univ.map rcvEmb) fun sm h => ?_).trans (Entails.of_eq ?_)
  · obtain ⟨i, -, rfl⟩ := Finset.mem_map.mp h
    exact Finset.mem_erase.mpr ⟨rcv_ne_bar i, Finset.mem_univ _⟩
  · rw [bigSep_map]
    exact bigSep_congr fun i _ => congrArg cred (credit_at c _ N (fun d => owed_rcv d c i))

/-! ## The run -/

noncomputable abbrev T₀ (c : Dev nD) : sProp 𝕄 := iprop(StableHlo.held (c : Thread nD τ) bufs (V₀ m c) ∗ R0 m c)
noncomputable abbrev Tₙ (c : Dev nD) : sProp 𝕄 := iprop(StableHlo.held (c : Thread nD τ) bufs (V₃ m c) ∗ semVal (barCell c) 0)

/-- What a device is launched with besides the exchange's ghost state. -/
def bundle (c : Dev nD) : sProp 𝕄 :=
  iprop(StableHlo.held (c : Thread nD τ) bufs (V₀ m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R0 Tk
  iintro ⟨#HR, Hl, Hh, Hc, HO, Hp⟩
  isplitl [Hh]; · iexact Hh
  isplitr [HO]
  · isplitr [Hp]
    · isplitl [Hl]
      · iapply (ghost_intro m κ c)
        isplitr; · iexact HR
        iexact Hl
      iexact Hc
    iexact Hp
  · iexists ∅; iexact HO

/-- The buffers that outlive the call, as launched. -/
theorem bufs_held (c : Dev nD) (W : Valuation τ sig (Elt F)) :
    (unscopedBufs c (fun b => W b) : sProp 𝕄) = StableHlo.held (c : Thread nD τ) bufs W := by
  unfold unscopedBufs StableHlo.held bufs Pipeline.ucRefs StableHlo.tcRefs
  rw [Finset.filter_map, BI.bigSep_map]
  rfl

theorem unscoped_eq : ∀ sm : SemLoc sig, sm.isScoped .tc = false → sm = .reg barS := by decide
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The global step of the launch. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from bufs_held c (V₀ m c),
      unscopedSems_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H := (show _ ⊢ _ from bigSep_mono fun c (_ : c ∈ Finset.univ) => hcore c) $$ H
  ihave H := (unzip Finset.univ _ _) $$ H
  icases H with ⟨HB, H⟩
  ihave H := (unzip Finset.univ _ _) $$ H
  icases H with ⟨Hv, HG⟩
  ihave Hu := (Entails.of_eq (G_all (F := F))) $$ HG
  imod (Rounds.fund_launch ER (Rd m) disjoint_cells (fun g _ h => h) talkToks) $$ [Hv Hu] with ⟨%κ, -, #Hinv, #Hr, Hat, Hopen, Htok⟩
  · isplitl [Hv]
    · iapply hv $$ Hv
    · iexact Hu
  imodintro
  ihave Htok := (Entails.of_eq (toks_dealt (F := F))) $$ Htok
  icases Htok with ⟨Hb, Ht⟩
  ihave Hopen := (Entails.of_eq (opens_dealt (F := F))) $$ Hopen
  iapply (bigSep_with_persistent (R := records m κ) (Φ := fun c => iprop(linear c ∗ bundle m c)) fun c _ => T₀_intro m κ c)
  isplitr
  · unfold records
    isplitr; · iexact Hinv
    iexact Hr
  iapply (zip Finset.univ _ _)
  isplitr [HB]
  · unfold linear
    iapply (zip Finset.univ _ _); isplitl [Hat]; · iapply hat $$ Hat
    iapply (zip Finset.univ _ _); isplitl [Hb]; · iexact Hb
    iapply (show _ ⊢ _ from bigSep_mono fun c (_ : c ∈ Finset.univ) => zip Finset.univ (fun i : Fin 8 => iprop(openTok ER (sndCell c i) ∗ openTok ER (rcvCell c i)))
      (fun i : Fin 8 => iprop(dutyTok ER (sndCell c i) 0 () ∗ dutyTok ER (rcvCell (nbr c) i) 0 ())))
    iapply (zip Finset.univ _ _); isplitl [Hopen] <;> iassumption
  · iexact HB

/-- The buffers that outlive the call, listed. -/
theorem bufs_list (c : Dev nD) (W : Valuation τ sig (Elt F)) : (StableHlo.held (c : Thread nD τ) bufs W : sProp 𝕄)
    = iprop(((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v5) ↦{fullShare} W main_v5)
      ∗ (((c : Thread nD τ).loc main_v1) ↦{fullShare} W main_v1) ∗ (((c : Thread nD τ).loc main_v2) ↦{fullShare} W main_v2)
      ∗ (((c : Thread nD τ).loc main_v3) ↦{fullShare} W main_v3) ∗ (((c : Thread nD τ).loc main_v4) ↦{fullShare} W main_v4))) := by
  unfold StableHlo.held
  rw [bigSep_eq_bigSepL_of_eq [Proc.devRef .tc main_arg0, Proc.devRef .tc main_arg1, Proc.devRef .tc main_arg2, Proc.devRef .tc main_v5,
        Proc.devRef .tc main_v1, Proc.devRef .tc main_v2, Proc.devRef .tc main_v3, Proc.devRef .tc main_v4] (by decide) (by decide)]
  rfl

set_option backward.isDefEq.respectTransparency.types false in
/-- The program's run: from any memory with zero counters it ends with its arguments as they were, the result as
    the last transpose leaves it, and every counter at zero. -/
theorem run_main : θ_run defs (onTc (τ := τ) (main (F := F))) ⟨m, fun _ => 0, ρ⟩
    (fun r => (∀ c : Dev nD, (r.2.mem ((c : Thread nD τ).loc main_arg0) = V₃ m c main_arg0 ∧ r.2.mem ((c : Thread nD τ).loc main_arg1) = V₃ m c main_arg1
        ∧ r.2.mem ((c : Thread nD τ).loc main_arg2) = V₃ m c main_arg2) ∧ r.2.mem ((c : Thread nD τ).loc main_v5) = V₃ m c main_v5) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imodintro
      isplitl [HP]; · iexact HP
      rw [G_all]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R1 c) ⊢ iprop(Tₙ m c ∗ ∃ W, owes (c : Thread nD τ) (0 : CellTallies nD τ sig Unit) W)
      unfold R1
      iintro ⟨Hh, Hb, HO⟩
      isplitr [HO]
      · isplitl [Hh] <;> iassumption
      · iexact HO)
    (hinit := init m ρ)
    (QY := fun c s => ((s.mem ((c : Thread nD τ).loc main_arg0) = V₃ m c main_arg0 ∧ s.mem ((c : Thread nD τ).loc main_arg1) = V₃ m c main_arg1
        ∧ s.mem ((c : Thread nD τ).loc main_arg2) = V₃ m c main_arg2) ∧ s.mem ((c : Thread nD τ).loc main_v5) = V₃ m c main_v5) ∧ s.sem (barCell c) = 0)
    (hfin := fun c s' => by
      dsimp only [Tₙ]; rw [bufs_list]
      iintro ⟨⟨⟨H0, H1, H2, H5, -⟩, Hb⟩, HSI⟩
      icombine HSI H0 gives %h0
      icombine HSI H1 gives %h1
      icombine HSI H2 gives %h2
      icombine HSI H5 gives %h5
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ h5⟩, by simpa using hb⟩
      iexact HSI)
    (hQ := fun s h hs => ⟨fun c => (h c).1, sem_eq_zero hs fun c sm hsm => by
        obtain rfl := unscoped_eq sm hsm
        exact (h c).2⟩)

/-- The arguments end as they began. -/
theorem V₃_arg (c : Dev nD) (b : Ref sig .tc) (h5 : b ≠ main_v5) (h4 : b ≠ main_v4)
    (h3 : b ≠ main_v3) (h2 : b ≠ main_v2)
    (h1 : b ≠ main_v1) : V₃ m c b = m ((c : Thread nD τ).loc b) := by
  unfold V₃ hostOps1
  rw [StableHlo.after_cons, StableHlo.after_nil, StableHlo.unary_result_ne _ _ _ _ _ _ h5, V₂_off m c _ (StableHlo.devRef_ne_of_ne h4)]
  unfold V₁ hostOps0
  rw [StableHlo.after_cons, StableHlo.after_cons, StableHlo.after_cons, StableHlo.after_nil, StableHlo.unary_result_ne _ _ _ _ _ _ h3,
    StableHlo.unary_result_ne _ _ _ _ _ _ h2, StableHlo.unary_result_ne _ _ _ _ _ _ h1]

/-- The result is the transposed result array. -/
theorem V₃_out (c : Dev nD) : V₃ m c main_v5 = (transpose S2x512x8x64 [0, 3, 1, 2] (OUT m c) transposes_S2x8x64x512_S2x512x8x64_0_3_1_2 : S2x512x8x64.Idx → F .f32) := by
  unfold V₃ hostOps1
  rw [StableHlo.after_cons, StableHlo.after_nil, StableHlo.unary_result, V₂_out]

/-- What each device finds: its arguments transposed. -/
theorem QH_eq (c : Dev nD) : QH m c = transpose S2x8x64x512 [0, 2, 3, 1] (m ((c : Thread nD τ).loc main_arg0) : S2x512x8x64.Idx → F .f32) transposes_S2x512x8x64_S2x8x64x512_0_2_3_1 := by
  unfold QH V₁ hostOps0
  rw [StableHlo.after_cons, StableHlo.after_cons, StableHlo.after_cons, StableHlo.after_nil, StableHlo.unary_result_ne _ _ _ _ _ _ (by decide),
    StableHlo.unary_result_ne _ _ _ _ _ _ (by decide), StableHlo.unary_result]
theorem KH_eq (c : Dev nD) : KH m c = transpose S2x8x64x512 [0, 2, 3, 1] (m ((c : Thread nD τ).loc main_arg1) : S2x512x8x64.Idx → F .f32) transposes_S2x512x8x64_S2x8x64x512_0_2_3_1 := by
  unfold KH V₁ hostOps0
  rw [StableHlo.after_cons, StableHlo.after_cons, StableHlo.after_cons, StableHlo.after_nil, StableHlo.unary_result_ne _ _ _ _ _ _ (by decide),
    StableHlo.unary_result, StableHlo.unary_result_ne _ _ _ _ _ _ (by decide)]
theorem VH_eq (c : Dev nD) : VH m c = transpose S2x8x64x512 [0, 2, 3, 1] (m ((c : Thread nD τ).loc main_arg2) : S2x512x8x64.Idx → F .f32) transposes_S2x512x8x64_S2x8x64x512_0_2_3_1 := by
  unfold VH V₁ hostOps0
  rw [StableHlo.after_cons, StableHlo.after_cons, StableHlo.after_cons, StableHlo.after_nil, StableHlo.unary_result,
    StableHlo.unary_result_ne _ _ _ _ _ _ (by decide), StableHlo.unary_result_ne _ _ _ _ _ _ (by decide)]

end Cert.KernelIdeal.Talk

end
-- ==== Proof.Frames.lean ====
/-
  The frames: the run of every device over any float values, read at the program's own words and at the reals, with
  the values dropped; and the reference's.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem
open Cert.KernelIdeal.Talk

/-- An array that no operation of the program writes ends as it began. -/
theorem arg_kept {F : FTy → Type} [FloatOps F] (m : (ℓ : Loc KernelIdeal.nD KernelIdeal.τ KernelIdeal.sig) → Buf (Elt F) ℓ)
    (c : Dev KernelIdeal.nD) :
    V₃ m c KernelIdeal.main_arg0 = m (c.tc.loc KernelIdeal.main_arg0) ∧ V₃ m c KernelIdeal.main_arg1 = m (c.tc.loc KernelIdeal.main_arg1)
      ∧ V₃ m c KernelIdeal.main_arg2 = m (c.tc.loc KernelIdeal.main_arg2) :=
  ⟨V₃_arg m c _ (by decide) (by decide) (by decide) (by decide) (by decide),
    V₃_arg m c _ (by decide) (by decide) (by decide) (by decide) (by decide),
    V₃_arg m c _ (by decide) (by decide) (by decide) (by decide) (by decide)⟩

/-- The program over the reals: it runs, its arguments end unchanged and every counter ends at zero. -/
theorem frame_ideal : Cert.quiescent_KernelIdeal := fun m ρ _ =>
  (θ_run Cert.KernelIdeal.defs _ _).mono
    (fun _ h => ⟨fun c => ⟨(h.1 c).1.1.trans (arg_kept m c).1, (h.1 c).1.2.1.trans (arg_kept m c).2.1,
      (h.1 c).1.2.2.trans (arg_kept m c).2.2⟩, h.2⟩)
    (run_main (F := Ideal) m ρ)

/-- The program over the machine's words, likewise. -/
theorem frame_kernel : Cert.quiescent_Kernel := fun m ρ _ =>
  (θ_run Cert.KernelIdeal.defs _ _).mono
    (fun _ h => ⟨fun c => ⟨(h.1 c).1.1.trans (arg_kept m c).1, (h.1 c).1.2.1.trans (arg_kept m c).2.1,
      (h.1 c).1.2.2.trans (arg_kept m c).2.2⟩, h.2⟩)
    (run_main (F := Bits) m ρ)

/-- The reference: it runs, its arguments end unchanged and, since it has no counter, every counter ends at zero. -/
theorem frame_reference : Cert.quiescent_ReferenceIdeal := fun m ρ _ =>
  (θ_run Cert.ReferenceIdeal.defs _ _).mono
    (fun r h => ⟨fun c => ⟨(h c).2.1, (h c).2.2.1, (h c).2.2.2⟩, funext fun x => by
      obtain ⟨t, s⟩ := x
      cases s with
      | reg s => exact absurd s.isLt (Nat.not_lt_zero _)
      | dma s => exact absurd s.isLt (Nat.not_lt_zero _)⟩)
    (Cert.ReferenceIdeal.Value.run (F := Ideal) m ρ)

end Cert.Proof

end
-- ==== Proof.Softmax.lean ====
/-
  The mathematics of the value claim, over the extended reals: a softmax-weighted sum is the same number with and
  without the maximum subtracted from the scores, and whether the quotient is taken of each weight or of the sum.
-/
module

public import Idealize.ShloMosaic.PureOps.Ideal
public import Idealize.ShloMosaic.PureOps.Ideal.Laws

@[expose] public section

noncomputable section

namespace Cert.Proof.Softmax

open Idealize.ShloMosaic

variable {ι : Type} [Fintype ι]

/-- A finite sum of extended reals times a real that is not negative is the sum of the products. -/
theorem sum_mul_coe (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A finite sum of reals is the same sum taken in the extended reals. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The weighted sum: one division of the whole sum by the sum of the exponentials is the sum weighted by the
    quotients of the shifted exponentials, for real scores, a real shift and any values. -/
theorem weighted [Nonempty ι] (v : ι → EReal) (s : ι → ℝ) (m : ℝ) :
    Ideal.div (∑ k, v k * Ideal.exp (s k : EReal)) (∑ k, Ideal.exp (s k : EReal))
      = ∑ k, v k * Ideal.div (Ideal.exp ((s k : EReal) - (m : EReal))) (∑ l, Ideal.exp ((s l : EReal) - (m : EReal))) := by
  have hd : 0 < ∑ k, Real.exp (s k) := Finset.sum_pos (fun k _ => Real.exp_pos _) Finset.univ_nonempty
  have hm : (∑ l, Real.exp (s l - m)) = (∑ l, Real.exp (s l)) * Real.exp (-m) := by
    rw [Finset.sum_mul]
    exact Finset.sum_congr rfl fun l _ => by rw [← Real.exp_add, sub_eq_add_neg]
  have hd' : 0 < ∑ l, Real.exp (s l - m) := Finset.sum_pos (fun k _ => Real.exp_pos _) Finset.univ_nonempty
  have e1 : (∑ k, Ideal.exp (s k : EReal)) = ((∑ k, Real.exp (s k) : ℝ) : EReal) := by
    rw [coe_sum]; rfl
  have e2 : (∑ l, Ideal.exp ((s l : EReal) - (m : EReal))) = ((∑ l, Real.exp (s l - m) : ℝ) : EReal) := by
    rw [coe_sum]; exact Finset.sum_congr rfl fun l _ => by rw [← EReal.coe_sub, Ideal.exp_coe]
  rw [e1, e2, Ideal.div_coe hd.ne', sum_mul_coe _ _ _ (one_div_nonneg.2 hd.le)]
  refine Finset.sum_congr rfl fun k _ => ?_
  rw [Ideal.div_coe hd'.ne', ← EReal.coe_sub, Ideal.exp_coe, Ideal.exp_coe, mul_assoc, ← EReal.coe_mul, ← EReal.coe_mul]
  refine congrArg (fun x : ℝ => v k * (x : EReal)) ?_
  rw [hm, sub_eq_add_neg, Real.exp_add]
  have := (Real.exp_pos (-m)).ne'
  field_simp

/-- A dot product of reals with one factor scaled first is the dot product scaled last. -/
theorem scale_dot (a b : ι → ℝ) (c : ℝ) :
    (∑ e, ((a e : EReal) * (c : EReal)) * (b e : EReal)) = ((∑ e, a e * b e) * c : ℝ) := by
  rw [Finset.sum_mul, coe_sum]
  exact Finset.sum_congr rfl fun e _ => by rw [← EReal.coe_mul, ← EReal.coe_mul]; exact congrArg _ (by ring)

/-- The dot product of reals scaled last, as a real. -/
theorem dot_scale (a b : ι → ℝ) (c : ℝ) :
    (∑ e, (a e : EReal) * (b e : EReal)) * (c : EReal) = ((∑ e, a e * b e) * c : ℝ) := by
  rw [EReal.coe_mul, coe_sum]
  exact congrArg (· * _) (Finset.sum_congr rfl fun e _ => (EReal.coe_mul _ _).symm)

/-- The maximum of reals over a set that is not empty, begun at minus infinity, is a real. -/
theorem fold_max_real (s : Finset ι) (hs : s.Nonempty) (f : ι → EReal) (hf : ∀ k ∈ s, ∃ r : ℝ, f k = (r : EReal)) :
    ∃ r : ℝ, s.fold max ⊥ f = (r : EReal) := by
  classical
  induction hs using Finset.Nonempty.cons_induction with
  | singleton a =>
    obtain ⟨r, hr⟩ := hf a (Finset.mem_singleton_self a)
    exact ⟨r, by rw [Finset.fold_singleton, hr]; exact max_bot_right _⟩
  | cons a s ha hs ih =>
    obtain ⟨r, hr⟩ := hf a (Finset.mem_cons_self a s)
    obtain ⟨q, hq⟩ := ih fun k hk => hf k (Finset.mem_cons_of_mem hk)
    exact ⟨max r q, by rw [Finset.fold_cons, hr, hq]; exact (EReal.coe_strictMono.monotone.map_max).symm⟩

end Cert.Proof.Softmax
-- ==== Proof.Value.lean ====
/-
  The kernel's output read at one index over the extended reals: for each head, query and feature the sum of the values
  weighted by the exponentials of the scores over the own half and the received half, divided by the sum of the
  exponentials.
-/
module

public import proofs.«01_k».proof.Proof.Output
public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.KernelIdeal.Talk

open Idealize.ShloMosaic Idealize.ShloMosaic.ValueIdx
open Cert.KernelIdeal Cert.KernelIdeal.Gen

/-- The word of the scale is one eighth. -/
theorem ofBits_eighth : Ideal.ofBits .f32 0x3E000000#32 = (((1 : ℝ) / 8 : ℝ) : EReal) := by
  simp [Ideal.ofBits, Ideal.ieee, -EReal.coe_mul]; norm_num

/-- Dropping the two unit axes of a head. -/
theorem cast_head {α : Type} (x : S1x1x64x512.Idx → α) (d : Fin 64) (s : Fin 512) :
    shapeCast S64x512 x shapeCasts_S1x1x64x512_S64x512 (ix2 d s) = x (ix4 0 0 d s) := by
  refine shapeCast_apply _ _ _ _ ?_
  rw [Shape.rowMajor_val_two, Shape.rowMajor_val_succ, Shape.rowMajor_val_three]
  simp

/-- Adding them back. -/
theorem cast_tile {α : Type} (x : S64x512.Idx → α) (d : Fin 64) (s : Fin 512) :
    shapeCast S1x1x64x512 x shapeCasts_S64x512_S1x1x64x512 (ix4 0 0 d s) = x (ix2 d s) := by
  refine shapeCast_apply _ _ _ _ ?_
  rw [Shape.rowMajor_val_two, Shape.rowMajor_val_succ, Shape.rowMajor_val_three]
  simp

/-- A head of an array read at an index. -/
theorem head_apply (X : S2x8x64x512.Idx → EReal) (b : Fin 2) (h : Fin 8) (d : Fin 64) (s : Fin 512) :
    (head (F := Ideal) (e := .bf16) X b h) (ix4 0 0 d s) = X (ix4 b h d s) := by
  unfold head
  refine congrArg X (funext fun a => Fin.ext ?_)
  match a with
  | ⟨0, _⟩ => show b.val + 1 * 0 = b.val; omega
  | ⟨1, _⟩ => show h.val + 1 * 0 = h.val; omega
  | ⟨2, _⟩ => show 0 + 1 * d.val = d.val; omega
  | ⟨3, _⟩ => show 0 + 1 * s.val = s.val; omega

/-- A head of the scaled queries read at an index. -/
theorem qHead_apply (Q : S2x8x64x512.Idx → EReal) (b : Fin 2) (h : Fin 8) (d : Fin 64) (s : Fin 512) :
    qHead (F := Ideal) Q b h (ix2 d s) = Q (ix4 b h d s) * (((1 : ℝ) / 8 : ℝ) : EReal) := by
  unfold qHead
  rw [shapeCast_apply _ _ (ix2 d s) (ix3 0 d s) (by
    rw [Shape.rowMajor_val_two, Shape.rowMajor_val_three]; simp)]
  rw [extractStridedSlice_apply _ _ _ (ix3 0 d s) (ix3 h d s) (by
    intro a
    match a with
    | ⟨0, _⟩ => show h.val = h.val + 0; omega
    | ⟨1, _⟩ => show d.val = 0 + d.val; omega
    | ⟨2, _⟩ => show s.val = 0 + s.val; omega)]
  unfold k0_pay11
  show (shapeCast S8x64x512 _ shapeCasts_S1x8x64x512_S8x64x512 (ix3 h d s) : EReal) * Ideal.ofBits .f32 0x3E000000#32 = _
  rw [ofBits_eighth, shapeCast_apply _ _ (ix3 h d s) (ix4 0 h d s) (by
    rw [Shape.rowMajor_val_succ, Shape.rowMajor_val_three, Shape.rowMajor_val_three]; simp)]
  refine congrArg (fun x => x * _) (congrArg Q (funext fun a => Fin.ext ?_))
  match a with
  | ⟨0, _⟩ => show b.val + 1 * 0 = b.val; omega
  | ⟨1, _⟩ => show 0 + 1 * h.val = h.val; omega
  | ⟨2, _⟩ => show 0 + 1 * d.val = d.val; omega
  | ⟨3, _⟩ => show 0 + 1 * s.val = s.val; omega

/-- The product of the queries and the keys of one head, contracted over the features. -/
theorem dot_scores (q k : S64x512.Idx → EReal) (s t : Fin 512) :
    FloatOps.matmul (F := Ideal) (φ₁ := .bf16) (φ₂ := .bf16) dot_S64x512_S64x512_S512x512_0_0_1_1_n_n none q k (constant S512x512 .f32 0x00000000#32) (ix2 s t)
      = ∑ e : Fin 64, q (ix2 e s) * k (ix2 e t) := by
  rw [Ideal.matmul_constant_zero_apply, ← Equiv.sum_comp (contrEquiv1 dot_S64x512_S64x512_S512x512_0_0_1_1_n_n 64 rfl rfl).symm]
  refine Finset.sum_congr rfl fun e _ => ?_
  have hk := contrEquiv1_symm_val dot_S64x512_S64x512_S512x512_0_0_1_1_n_n 64 rfl rfl e
  refine congrArg₂ (· * ·) (congrArg q (funext fun a => Fin.ext ?_)) (congrArg k (funext fun a => Fin.ext ?_))
  · match a with
    | ⟨0, _⟩ => exact hk
    | ⟨1, _⟩ => rfl
  · match a with
    | ⟨0, _⟩ => exact hk
    | ⟨1, _⟩ => rfl

/-- The row of ones by the weights: a sum over the keys. -/
theorem dot_ones (o : S1x512.Idx → EReal) (p : S512x512.Idx → EReal) (s : Fin 512) :
    FloatOps.matmul (F := Ideal) (φ₁ := .bf16) (φ₂ := .bf16) dot_S1x512_S512x512_S1x512_1_1_0_0_n_n none o p (constant S1x512 .f32 0x00000000#32) (ix2 0 s)
      = ∑ t : Fin 512, o (ix2 0 t) * p (ix2 s t) := by
  rw [Ideal.matmul_constant_zero_apply, ← Equiv.sum_comp (contrEquiv1 dot_S1x512_S512x512_S1x512_1_1_0_0_n_n 512 rfl rfl).symm]
  refine Finset.sum_congr rfl fun e _ => ?_
  have hk := contrEquiv1_symm_val dot_S1x512_S512x512_S1x512_1_1_0_0_n_n 512 rfl rfl e
  refine congrArg₂ (· * ·) (congrArg o (funext fun a => Fin.ext ?_)) (congrArg p (funext fun a => Fin.ext ?_))
  · match a with
    | ⟨0, _⟩ => rfl
    | ⟨1, _⟩ => exact hk
  · match a with
    | ⟨0, _⟩ => rfl
    | ⟨1, _⟩ => exact hk

/-- The values by the weights: a sum over the keys. -/
theorem dot_values (v : S64x512.Idx → EReal) (p : S512x512.Idx → EReal) (d : Fin 64) (s : Fin 512) :
    FloatOps.matmul (F := Ideal) (φ₁ := .bf16) (φ₂ := .bf16) dot_S64x512_S512x512_S64x512_1_1_0_0_n_n none v p (constant S64x512 .f32 0x00000000#32) (ix2 d s)
      = ∑ t : Fin 512, v (ix2 d t) * p (ix2 s t) := by
  rw [Ideal.matmul_constant_zero_apply, ← Equiv.sum_comp (contrEquiv1 dot_S64x512_S512x512_S64x512_1_1_0_0_n_n 512 rfl rfl).symm]
  refine Finset.sum_congr rfl fun e _ => ?_
  have hk := contrEquiv1_symm_val dot_S64x512_S512x512_S64x512_1_1_0_0_n_n 512 rfl rfl e
  refine congrArg₂ (· * ·) (congrArg v (funext fun a => Fin.ext ?_)) (congrArg p (funext fun a => Fin.ext ?_))
  · match a with
    | ⟨0, _⟩ => rfl
    | ⟨1, _⟩ => exact hk
  · match a with
    | ⟨0, _⟩ => rfl
    | ⟨1, _⟩ => exact hk

/-- The score of a query and a key: the scaled query by the key. -/
def score (Q K : S2x8x64x512.Idx → EReal) (b : Fin 2) (h : Fin 8) (s t : Fin 512) : EReal :=
  ∑ e : Fin 64, (Q (ix4 b h e s) * (((1 : ℝ) / 8 : ℝ) : EReal)) * K (ix4 b h e t)

/-- The weights of one head read at a query and a key. -/
theorem pay13_apply (Q K : S2x8x64x512.Idx → EReal) (b : Fin 2) (h : Fin 8) (s t : Fin 512) :
    k0_pay13 (F := Ideal) (qHead Q b h) (head (e := .bf16) K b h) (ix2 s t) = Ideal.exp (score Q K b h s t) := by
  unfold k0_pay13 score
  refine congrArg Ideal.exp ((dot_scores _ _ s t).trans (Finset.sum_congr rfl fun e _ => ?_))
  rw [qHead_apply, cast_head, head_apply]

/-- The row of ones. -/
theorem pay10_apply (i : S1x512.Idx) : k0_pay10 (F := Ideal) i = (1 : EReal) := Ideal.ofBits_one_bf16

/-- The sum of the weights of one head over one half of the keys. -/
theorem dens_apply (Q K : S2x8x64x512.Idx → EReal) (b : Fin 2) (h : Fin 8) (s : Fin 512) :
    FloatOps.matmul (F := Ideal) (φ₁ := .bf16) (φ₂ := .bf16) dot_S1x512_S512x512_S1x512_1_1_0_0_n_n none k0_pay10
        (k0_pay13 (qHead Q b h) (head (e := .bf16) K b h)) (constant S1x512 .f32 0x00000000#32) (ix2 0 s)
      = ∑ t : Fin 512, Ideal.exp (score Q K b h s t) := by
  rw [dot_ones]
  exact Finset.sum_congr rfl fun t _ => by rw [pay10_apply, one_mul, pay13_apply]

/-- The weighted values of one head over one half of the keys. -/
theorem accs_apply (Q K V : S2x8x64x512.Idx → EReal) (b : Fin 2) (h : Fin 8) (d : Fin 64) (s : Fin 512) :
    FloatOps.matmul (F := Ideal) (φ₁ := .bf16) (φ₂ := .bf16) dot_S64x512_S512x512_S64x512_1_1_0_0_n_n none
        (shapeCast S64x512 (head (F := Ideal) (e := .bf16) V b h) shapeCasts_S1x1x64x512_S64x512)
        (k0_pay13 (qHead Q b h) (head (e := .bf16) K b h)) (constant S64x512 .f32 0x00000000#32) (ix2 d s)
      = ∑ t : Fin 512, V (ix4 b h d t) * Ideal.exp (score Q K b h s t) := by
  rw [dot_values]
  exact Finset.sum_congr rfl fun t _ => by rw [cast_head, head_apply, pay13_apply]

/-- The quotient of one head at an index: the two halves' sums added above and below the division. -/
theorem pay101_apply (o : FVec Ideal S1x512 .bf16) (den : FVec Ideal S1x512 .f32) (acc : FVec Ideal S64x512 .f32) (p : FVec Ideal S512x512 .bf16)
    (v : Vec Ideal S1x1x64x512 .bf16) (d : Fin 64) (s : Fin 512) :
    k0_pay101 (F := Ideal) o den acc p v (ix4 0 0 d s)
      = Ideal.div (acc (ix2 d s) + FloatOps.matmul (φ₁ := .bf16) (φ₂ := .bf16) dot_S64x512_S512x512_S64x512_1_1_0_0_n_n none (shapeCast S64x512 v shapeCasts_S1x1x64x512_S64x512) p
            (constant S64x512 .f32 0x00000000#32) (ix2 d s))
          (den (ix2 0 s) + FloatOps.matmul dot_S1x512_S512x512_S1x512_1_1_0_0_n_n none o p (constant S1x512 .f32 0x00000000#32) (ix2 0 s)) := by
  unfold k0_pay101
  refine (cast_tile _ d s).trans ?_
  rw [divf_apply, broadcastTo_apply _ _ (ix2 d s) (ix2 0 s) (by
    intro a
    match a with
    | ⟨0, _⟩ => rfl
    | ⟨1, _⟩ => rfl), addf_apply, addf_apply]

/-- The own half's sum of the weights. -/
theorem pay14_apply (Q K : S2x8x64x512.Idx → EReal) (b : Fin 2) (h : Fin 8) (s : Fin 512) :
    k0_pay14 (F := Ideal) k0_pay10 (qHead Q b h) (head (e := .bf16) K b h) (ix2 0 s) = ∑ t : Fin 512, Ideal.exp (score Q K b h s t) := by
  unfold k0_pay14
  exact dens_apply Q K b h s

/-- The own half's weighted values. -/
theorem pay15_apply (Q K V : S2x8x64x512.Idx → EReal) (b : Fin 2) (h : Fin 8) (d : Fin 64) (s : Fin 512) :
    k0_pay15 (F := Ideal) (qHead Q b h) (head (e := .bf16) K b h) (head (e := .bf16) V b h) (ix2 d s)
      = ∑ t : Fin 512, V (ix4 b h d t) * Ideal.exp (score Q K b h s t) := by
  unfold k0_pay15
  exact accs_apply Q K V b h d s

/-- The output of the kernel at an index. -/
theorem outAll_apply (Q K0 V0 K1 V1 : S2x8x64x512.Idx → EReal) (b : Fin 2) (h : Fin 8) (d : Fin 64) (s : Fin 512) :
    outAll (F := Ideal) Q K0 V0 K1 V1 (ix4 b h d s)
      = Ideal.div ((∑ t : Fin 512, V0 (ix4 b h d t) * Ideal.exp (score Q K0 b h s t)) + ∑ t : Fin 512, V1 (ix4 b h d t) * Ideal.exp (score Q K1 b h s t))
          ((∑ t : Fin 512, Ideal.exp (score Q K0 b h s t)) + ∑ t : Fin 512, Ideal.exp (score Q K1 b h s t)) := by
  have hi : inHead (ix4 b h d s) = ix4 0 0 d s := by
    funext a
    match a with | ⟨0, _⟩ => rfl | ⟨1, _⟩ => rfl | ⟨2, _⟩ => rfl | ⟨3, _⟩ => rfl
  have ho : outAll (F := Ideal) Q K0 V0 K1 V1 (ix4 b h d s) = outHead (F := Ideal) Q K0 V0 K1 V1 b h (ix4 0 0 d s) :=
    congrArg (outHead (F := Ideal) Q K0 V0 K1 V1 b h) hi
  rw [ho]
  unfold outHead
  rw [pay101_apply, accs_apply, dens_apply, pay14_apply, pay15_apply]

end Cert.KernelIdeal.Talk
-- ==== Proof.RefValue.lean ====
/-
  The reference's result read at one index over the extended reals: the values weighted by the quotients of the
  exponentials of the scores, shifted by a maximum that is a real when every score is.
-/
module

public import proofs.«01_k».proof.Proof.Gen.ReferenceIdeal.Run
public import proofs.«01_k».proof.Proof.Softmax
public import proofs.«01_k».proof.Proof.Value

@[expose] public section

noncomputable section

namespace Cert.ReferenceIdeal.Read

open Idealize.ShloMosaic Idealize.ShloMosaic.ValueIdx
open Cert.ReferenceIdeal Cert.ReferenceIdeal.Gen

/-- The scaled scores of the reference. -/
def sc (Q K : FVec Ideal S2x1024x8x64 .f32) : FVec Ideal S2x8x1024x1024 .f32 :=
  mulf (Host.dotGeneral dot_S2x1024x8x64_S2x1024x8x64_S2x8x1024x1024_3_3_1_1_02_02 none Q K)
    (broadcastInDim S2x8x1024x1024 ![] bcast_S_S2x8x1024x1024 (constant S_ .f32 0x3E000000#32))

/-- A number per query laid along the keys. -/
def alongKeys (M : FVec Ideal S2x8x1024 .f32) : FVec Ideal S2x8x1024x1024 .f32 :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 M)

/-- The largest score of each query. -/
def mx (S : FVec Ideal S2x8x1024x1024 .f32) : FVec Ideal S2x8x1024 .f32 :=
  Host.reduce FloatOps.maximumf S (constant S_ .f32 0xFF800000#32) reducesTo_S2x8x1024x1024_S2x8x1024_d3 h_S_

/-- The exponentials of the shifted scores. -/
def ex (S : FVec Ideal S2x8x1024x1024 .f32) : FVec Ideal S2x8x1024x1024 .f32 :=
  Host.exp (subf S (alongKeys (mx S)))

/-- The sum of the weights of each query. -/
def total (E : FVec Ideal S2x8x1024x1024 .f32) : FVec Ideal S2x8x1024 .f32 :=
  Host.reduceAdd E (constant S_ .f32 0x00000000#32) reducesTo_S2x8x1024x1024_S2x8x1024_d3 h_S_

/-- The reference's result. -/
def out (Q K V : FVec Ideal S2x1024x8x64 .f32) : FVec Ideal S2x1024x8x64 .f32 :=
  transpose S2x1024x8x64 [0, 3, 1, 2]
    (Host.dotGeneral dot_S2x1024x8x64_S2x8x1024x1024_S2x8x64x1024_1_3_3_2_02_01 none V
      (Host.divf (ex (sc Q K)) (alongKeys (total (ex (sc Q K))))))
    transposes_S2x8x64x1024_S2x1024x8x64_0_3_1_2

/-- The reference's score of a query and a key. -/
def score (Q K : S2x1024x8x64.Idx → EReal) (b : Fin 2) (h : Fin 8) (s t : Fin 1024) : EReal :=
  (∑ e : Fin 64, Q (ix4 b s h e) * K (ix4 b t h e)) * (((1 : ℝ) / 8 : ℝ) : EReal)

/-- The scaled scores at an index. -/
theorem sc_apply (Q K : S2x1024x8x64.Idx → EReal) (b : Fin 2) (h : Fin 8) (s t : Fin 1024) :
    sc Q K (ix4 b h s t) = score Q K b h s t := by
  unfold sc score
  rw [mulf_apply, broadcastInDim_scalar_apply]
  refine congrArg₂ (· * ·) ?_ KernelIdeal.Talk.ofBits_eighth
  refine (Ideal.dotGeneral_apply dot_S2x1024x8x64_S2x1024x8x64_S2x8x1024x1024_3_3_1_1_02_02 none .single Q K _).trans ?_
  rw [← Equiv.sum_comp (contrEquiv1 dot_S2x1024x8x64_S2x1024x8x64_S2x8x1024x1024_3_3_1_1_02_02 64 rfl rfl).symm]
  refine Finset.sum_congr rfl fun e _ => ?_
  have hk := contrEquiv1_symm_val dot_S2x1024x8x64_S2x1024x8x64_S2x8x1024x1024_3_3_1_1_02_02 64 rfl rfl e
  refine congrArg₂ (· * ·) (congrArg Q (funext fun a => Fin.ext ?_)) (congrArg K (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

/-- A number per query read at a key. -/
theorem alongKeys_apply (M : S2x8x1024.Idx → EReal) (b : Fin 2) (h : Fin 8) (s t : Fin 1024) :
    alongKeys M (ix4 b h s t) = M (ix3 b h s) := by
  unfold alongKeys
  rw [broadcastInDim_apply _ _ _ (ix4 b h s t) (ix4 b h s 0) (by
    intro a
    match a with
    | ⟨0, _⟩ => rfl
    | ⟨1, _⟩ => rfl
    | ⟨2, _⟩ => rfl
    | ⟨3, _⟩ => rfl)]
  exact broadcastInDim_apply _ _ _ (ix4 b h s 0) (ix3 b h s) (by
    intro a
    match a with
    | ⟨0, _⟩ => rfl
    | ⟨1, _⟩ => rfl
    | ⟨2, _⟩ => rfl)

/-- The keys are the axis the reductions drop. -/
theorem reduces_keys : S2x8x1024x1024.Reduces [3] S2x8x1024 := by decide

/-- A query's index with a key inserted. -/
theorem lift_keys (b : Fin 2) (h : Fin 8) (s t : Fin 1024) : reduces_keys.lift (ix3 b h s) t = ix4 b h s t := by
  funext a
  match a with
  | ⟨0, _⟩ => rfl
  | ⟨1, _⟩ => rfl
  | ⟨2, _⟩ => rfl
  | ⟨3, _⟩ => rfl

/-- The word the maximum begins at is minus infinity. -/
theorem ofBits_bot : Ideal.ofBits .f32 0xFF800000#32 = ⊥ := by simp [Ideal.ofBits, Ideal.ieee]

/-- The largest of real scores is a real. -/
theorem mx_real (S : S2x8x1024x1024.Idx → EReal) (b : Fin 2) (h : Fin 8) (s : Fin 1024)
    (hS : ∀ t : Fin 1024, ∃ r : ℝ, S (ix4 b h s t) = (r : EReal)) : ∃ r : ℝ, mx S (ix3 b h s) = (r : EReal) := by
  unfold mx
  obtain ⟨r, hr⟩ := Proof.Softmax.fold_max_real (Finset.univ : Finset (Fin 1024)) Finset.univ_nonempty (fun t => S (ix4 b h s t)) fun t _ => hS t
  refine ⟨r, ((Host.reduce_eq_fold_single (FloatOps.maximumf (F := Ideal) (φ := .f32)) S (constant S_ .f32 0xFF800000#32)
    reducesTo_S2x8x1024x1024_S2x8x1024_d3 reduces_keys h_S_ (ix3 b h s)).trans ?_).trans hr⟩
  show Finset.fold max (Ideal.ofBits .f32 0xFF800000#32) (fun t : Fin 1024 => S (reduces_keys.lift (ix3 b h s) t)) Finset.univ = _
  rw [ofBits_bot]
  simp only [lift_keys]

/-- The exponential of a shifted score at an index. -/
theorem ex_apply (S : S2x8x1024x1024.Idx → EReal) (b : Fin 2) (h : Fin 8) (s t : Fin 1024) :
    ex S (ix4 b h s t) = Ideal.exp (S (ix4 b h s t) - mx S (ix3 b h s)) :=
  congrArg (fun x => Ideal.exp (S (ix4 b h s t) - x)) (alongKeys_apply (mx S) b h s t)

/-- The sum of the weights at a query. -/
theorem total_apply (E : S2x8x1024x1024.Idx → EReal) (b : Fin 2) (h : Fin 8) (s : Fin 1024) :
    total E (ix3 b h s) = ∑ t : Fin 1024, E (ix4 b h s t) := by
  unfold total
  rw [hostReduceAdd_apply, Ideal.hostReduceAdd_single reducesTo_S2x8x1024x1024_S2x8x1024_d3 reduces_keys]
  show Ideal.ofBits .f32 0x00000000#32 + (∑ t : Fin 1024, E (reduces_keys.lift (ix3 b h s) t)) = _
  rw [Ideal.ofBits_zero_f32, zero_add]
  simp only [lift_keys]

/-- The values by the weights at an index. -/
theorem dot_values (V : S2x1024x8x64.Idx → EReal) (P : S2x8x1024x1024.Idx → EReal) (b : Fin 2) (h : Fin 8) (d : Fin 64) (s : Fin 1024) :
    Host.dotGeneral (F := Ideal) (φ₁ := .f32) (φ₂ := .f32) dot_S2x1024x8x64_S2x8x1024x1024_S2x8x64x1024_1_3_3_2_02_01 none V P (ix4 b h d s)
      = ∑ t : Fin 1024, V (ix4 b t h d) * P (ix4 b h s t) := by
  refine (Ideal.dotGeneral_apply dot_S2x1024x8x64_S2x8x1024x1024_S2x8x64x1024_1_3_3_2_02_01 none .single V P _).trans ?_
  rw [← Equiv.sum_comp (contrEquiv1 dot_S2x1024x8x64_S2x8x1024x1024_S2x8x64x1024_1_3_3_2_02_01 1024 rfl rfl).symm]
  refine Finset.sum_congr rfl fun e _ => ?_
  have hk := contrEquiv1_symm_val dot_S2x1024x8x64_S2x8x1024x1024_S2x8x64x1024_1_3_3_2_02_01 1024 rfl rfl e
  refine congrArg₂ (· * ·) (congrArg V (funext fun a => Fin.ext ?_)) (congrArg P (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-- The reference's result at an index, for real scores: the values weighted by the exponentials, divided once by their sum. -/
theorem out_apply (Q K V : S2x1024x8x64.Idx → EReal) (b : Fin 2) (h : Fin 8) (d : Fin 64) (s : Fin 1024)
    (hS : ∀ t : Fin 1024, ∃ r : ℝ, score Q K b h s t = (r : EReal)) :
    out Q K V (ix4 b s h d)
      = Ideal.div (∑ t : Fin 1024, V (ix4 b t h d) * Ideal.exp (score Q K b h s t)) (∑ t : Fin 1024, Ideal.exp (score Q K b h s t)) := by
  obtain ⟨m, hm⟩ := mx_real (sc Q K) b h s fun t => by rw [sc_apply]; exact hS t
  choose r hr using hS
  have he : ∀ t, ex (sc Q K) (ix4 b h s t) = Ideal.exp ((r t : EReal) - (m : EReal)) := fun t => by
    rw [ex_apply, hm, sc_apply, hr]
  unfold out
  rw [transpose_apply _ _ _ (ix4 b s h d) (ix4 b h d s) (by
    intro a
    match a with
    | ⟨0, _⟩ => rfl
    | ⟨1, _⟩ => rfl
    | ⟨2, _⟩ => rfl
    | ⟨3, _⟩ => rfl)]
  rw [dot_values]
  simp only [hr]
  rw [Proof.Softmax.weighted (fun t => V (ix4 b t h d)) r m]
  refine Finset.sum_congr rfl fun t _ => congrArg (V (ix4 b t h d) * ·) ?_
  rw [hostDivf_apply, alongKeys_apply, total_apply, he]
  simp only [he]

end Cert.ReferenceIdeal.Read
-- ==== Proof.Algebraic.lean ====
/-
  The value claim: over the extended reals each device's result is its block of the reference's result, for finite
  queries and keys. The own half and the neighbour's half of the keys are the two halves of the reference's sums.
-/
module

public import proofs.«01_k».proof.Defs
public import proofs.«01_k».proof.Proof.Frames
public import proofs.«01_k».proof.Proof.RefValue
public import proofs.«01_k».proof.Proof.Gen.Pre_scores_finite_KernelIdeal
public import Idealize.ShloMosaic.Lib.ReduceAll
public import Idealize.ShloMosaic.Lib.Layout

@[expose] public section

noncomputable section

namespace Cert.Proof

open Idealize.ShloMosaic Idealize.ShloMosaic.ValueIdx Idealize.ShloMosaic.TcCoe Idealize.SL.Sem
open Cert.KernelIdeal.Talk

/-- An extended real whose absolute value is below infinity is a real. -/
theorem real_of_abs_lt (x : EReal) (h : max x (-x) < ⊤) : ∃ r : ℝ, x = (r : EReal) := by
  induction x using EReal.rec with
  | bot => simp at h
  | coe r => exact ⟨r, rfl⟩
  | top => simp at h

/-- The word of the bound is infinity. -/
theorem ofBits_top : Ideal.ofBits .f32 0x7F800000#32 = ⊤ := by simp [Ideal.ofBits, Ideal.ieee]

/-- The comparison of the precondition at an element. -/
theorem real_of_bit (x : EReal) (h : Ideal.cmp .olt (max x (-x)) (Ideal.ofBits .f32 0x7F800000#32) = 1#1) : ∃ r : ℝ, x = (r : EReal) := by
  refine real_of_abs_lt x ?_
  rw [ofBits_top] at h
  by_contra hn
  simp [Ideal.cmp, hn] at h

instance : Subsingleton Pre_scores_finite_KernelIdeal.S_.Idx := ⟨fun a b => funext fun i => i.elim0⟩

/-- The precondition says every query and every key of the device's blocks is a real. -/
theorem real_of_pre (Q K V : FVec Ideal KernelIdeal.S2x512x8x64 .f32)
    (h : Pre_scores_finite_KernelIdeal.fn (F := Ideal) Q K V = fun _ => 1#1) (i : KernelIdeal.S2x512x8x64.Idx) :
    (∃ r : ℝ, Q i = (r : EReal)) ∧ ∃ r : ℝ, K i = (r : EReal) := by
  obtain ⟨hq, hk⟩ := IntOp.andi_eq_one.1 (congrFun h ix0)
  exact ⟨real_of_bit _ (Host.reduce_andi_all _ _ _ _ _ hq i), real_of_bit _ (Host.reduce_andi_all _ _ _ _ _ hk i)⟩

/-- The position in the whole sequence of a device's position. -/
def pos (c : Dev KernelIdeal.nD) (s : Fin 512) : Fin 1024 :=
  ⟨c.val / 2 % 2 * 512 + s.val, by have := s.isLt; have := Nat.mod_lt (c.val / 2) (show 0 < 2 by omega); omega⟩

/-- A device's block of an array of the reference: the sequence is cut along the mesh's second axis. -/
abbrev block (c : Dev KernelIdeal.nD) (v : (⟨4, ![2, 1024, 8, 64]⟩ : Shape).Idx → EReal) : (⟨4, ![2, 512, 8, 64]⟩ : Shape).Idx → EReal :=
  Layout.blockN ⟨4, ![2, 512, 8, 64]⟩ ⟨4, ![2, 1024, 8, 64]⟩ (Layout.meshBlock [2, 2, 2] ![[], [1], [], []] c) v

/-- A device's block of an array of the reference, at an index. -/
theorem block_apply (c : Dev KernelIdeal.nD) (v : (⟨4, ![2, 1024, 8, 64]⟩ : Shape).Idx → EReal) (b : Fin 2) (s : Fin 512) (h : Fin 8) (d : Fin 64) :
    block c v (ix4 b s h d)
      = v (ix4 b (pos c s) h d) := by
  unfold block Layout.blockN
  refine congrArg v (funext fun a => Fin.ext ?_)
  match a with
  | ⟨0, _⟩ => show 0 * 2 + b.val = b.val; omega
  | ⟨1, _⟩ => show (c.val / 2 % 2 * 1 + 0) * 512 + s.val = c.val / 2 % 2 * 512 + s.val; omega
  | ⟨2, _⟩ => show 0 * 8 + h.val = h.val; omega
  | ⟨3, _⟩ => show 0 * 64 + d.val = d.val; omega

/-- The neighbour is on the other half of the sequence. -/
theorem half_nbr (c : Dev KernelIdeal.nD) : (nbr c).val / 2 % 2 = 1 - c.val / 2 % 2 := by revert c; decide

/-- A sum over the whole sequence is the sum over the device's half plus the sum over its neighbour's. -/
theorem sum_halves (c : Dev KernelIdeal.nD) (f : Fin 1024 → EReal) :
    ∑ t, f t = (∑ t : Fin 512, f (pos c t)) + ∑ t : Fin 512, f (pos (nbr c) t) := by
  have hs : ∑ t, f t = (∑ t : Fin 512, f (Fin.castAdd 512 t)) + ∑ t : Fin 512, f (Fin.natAdd 512 t) := Fin.sum_univ_add (a := 512) (b := 512) f
  have lo : ∀ e : Dev KernelIdeal.nD, e.val / 2 % 2 = 0 → (∑ t : Fin 512, f (pos e t)) = ∑ t : Fin 512, f (Fin.castAdd 512 t) := fun e he =>
    Finset.sum_congr rfl fun t _ => congrArg f (Fin.ext (by
      show e.val / 2 % 2 * 512 + t.val = t.val
      omega))
  have hi : ∀ e : Dev KernelIdeal.nD, e.val / 2 % 2 = 1 → (∑ t : Fin 512, f (pos e t)) = ∑ t : Fin 512, f (Fin.natAdd 512 t) := fun e he =>
    Finset.sum_congr rfl fun t _ => congrArg f (Fin.ext (by
      show e.val / 2 % 2 * 512 + t.val = 512 + t.val
      omega))
  have hn := half_nbr c
  rcases (show c.val / 2 % 2 = 0 ∨ c.val / 2 % 2 = 1 by omega) with hc | hc
  · rw [hs, lo c hc, hi (nbr c) (by omega)]
  · rw [hs, hi c hc, lo (nbr c) (by omega), add_comm]

/-- Every position of the sequence is some device's. -/
theorem pos_surj (t : Fin 1024) : ∃ (c : Dev KernelIdeal.nD) (s : Fin 512), t = pos c s := by
  have ht := t.isLt
  refine ⟨⟨2 * (t.val / 512), show _ < 8 by omega⟩, ⟨t.val % 512, by omega⟩, Fin.ext ?_⟩
  show t.val = 2 * (t.val / 512) / 2 % 2 * 512 + t.val % 512
  omega

section
variable (m : (ℓ : Loc KernelIdeal.nD KernelIdeal.τ KernelIdeal.sig) → Buf (Elt Ideal) ℓ)

/-- A device's block of an array laid out for the kernel. -/
theorem laid_apply (X : KernelIdeal.S2x512x8x64.Idx → EReal) (b : Fin 2) (h : Fin 8) (d : Fin 64) (s : Fin 512) :
    transpose KernelIdeal.S2x8x64x512 [0, 2, 3, 1] X KernelIdeal.Gen.transposes_S2x512x8x64_S2x8x64x512_0_2_3_1 (ix4 b h d s) = X (ix4 b s h d) :=
  transpose_apply _ _ _ (ix4 b h d s) (ix4 b s h d) (by
    intro a
    match a with
    | ⟨0, _⟩ => rfl
    | ⟨1, _⟩ => rfl
    | ⟨2, _⟩ => rfl
    | ⟨3, _⟩ => rfl)

variable (Q K V : (⟨4, ![2, 1024, 8, 64]⟩ : Shape).Idx → EReal)

/-- The kernel's score of its query and a key of a device is the reference's score at their positions. -/
theorem score_eq (c e : Dev KernelIdeal.nD) (q k : KernelIdeal.S2x8x64x512.Idx → EReal)
    (hQ : ∀ i, ∃ r : ℝ, Q i = (r : EReal)) (hK : ∀ i, ∃ r : ℝ, K i = (r : EReal))
    (hq : ∀ b h d s, q (ix4 b h d s) = Q (ix4 b (pos c s) h d)) (hk : ∀ b h d s, k (ix4 b h d s) = K (ix4 b (pos e s) h d))
    (b : Fin 2) (h : Fin 8) (s t : Fin 512) :
    score q k b h s t = ReferenceIdeal.Read.score Q K b h (pos c s) (pos e t) := by
  choose x hx using hQ
  choose y hy using hK
  unfold score ReferenceIdeal.Read.score
  simp only [hq, hk, hx, hy]
  rw [Softmax.dot_scale (fun d => x (ix4 b (pos c s) h d)) (fun d => y (ix4 b (pos e t) h d)),
    Softmax.scale_dot (fun d => x (ix4 b (pos c s) h d)) (fun d => y (ix4 b (pos e t) h d))]

/-- The reference's scores of finite queries and keys are reals. -/
theorem score_real (hQ : ∀ i, ∃ r : ℝ, Q i = (r : EReal)) (hK : ∀ i, ∃ r : ℝ, K i = (r : EReal))
    (b : Fin 2) (h : Fin 8) (s t : Fin 1024) : ∃ r : ℝ, ReferenceIdeal.Read.score Q K b h s t = (r : EReal) := by
  choose x hx using hQ
  choose y hy using hK
  unfold ReferenceIdeal.Read.score
  simp only [hx, hy]
  exact ⟨_, Softmax.dot_scale (fun d => x (ix4 b s h d)) (fun d => y (ix4 b t h d)) _⟩

/-- A device's output at an index is the reference's result at the device's position. -/
theorem outAll_eq (c : Dev KernelIdeal.nD) (q k0 v0 k1 v1 : KernelIdeal.S2x8x64x512.Idx → EReal)
    (hQ : ∀ i, ∃ r : ℝ, Q i = (r : EReal)) (hK : ∀ i, ∃ r : ℝ, K i = (r : EReal))
    (hq : ∀ b h d s, q (ix4 b h d s) = Q (ix4 b (pos c s) h d))
    (hk0 : ∀ b h d s, k0 (ix4 b h d s) = K (ix4 b (pos c s) h d)) (hv0 : ∀ b h d s, v0 (ix4 b h d s) = V (ix4 b (pos c s) h d))
    (hk1 : ∀ b h d s, k1 (ix4 b h d s) = K (ix4 b (pos (nbr c) s) h d)) (hv1 : ∀ b h d s, v1 (ix4 b h d s) = V (ix4 b (pos (nbr c) s) h d))
    (b : Fin 2) (h : Fin 8) (d : Fin 64) (s : Fin 512) :
    outAll (F := Ideal) q k0 v0 k1 v1 (ix4 b h d s) = ReferenceIdeal.Read.out Q K V (ix4 b (pos c s) h d) := by
  rw [outAll_apply, ReferenceIdeal.Read.out_apply Q K V b h d (pos c s) fun t => score_real Q K hQ hK b h (pos c s) t]
  simp only [score_eq Q K c c q k0 hQ hK hq hk0, score_eq Q K c (nbr c) q k1 hQ hK hq hk1, hv0, hv1]
  rw [sum_halves c (fun t => V (ix4 b t h d) * Ideal.exp (ReferenceIdeal.Read.score Q K b h (pos c s) t)),
    sum_halves c (fun t => Ideal.exp (ReferenceIdeal.Read.score Q K b h (pos c s) t))]

/-- A device's block of an array, laid out for the kernel, at an index. -/
theorem laid_block (c : Dev KernelIdeal.nD) (X : KernelIdeal.S2x512x8x64.Idx → EReal) (Y : (⟨4, ![2, 1024, 8, 64]⟩ : Shape).Idx → EReal)
    (hX : X = block c Y)
    (b : Fin 2) (h : Fin 8) (d : Fin 64) (s : Fin 512) :
    transpose KernelIdeal.S2x8x64x512 [0, 2, 3, 1] X KernelIdeal.Gen.transposes_S2x512x8x64_S2x8x64x512_0_2_3_1 (ix4 b h d s) = Y (ix4 b (pos c s) h d) := by
  rw [laid_apply, hX, block_apply]

/-- Finite blocks on every device make the whole array finite. -/
theorem real_whole (X : Dev KernelIdeal.nD → KernelIdeal.S2x512x8x64.Idx → EReal) (Y : (⟨4, ![2, 1024, 8, 64]⟩ : Shape).Idx → EReal)
    (hX : ∀ c, X c = block c Y)
    (hr : ∀ c i, ∃ r : ℝ, X c i = (r : EReal)) (i : (⟨4, ![2, 1024, 8, 64]⟩ : Shape).Idx) : ∃ r : ℝ, Y i = (r : EReal) := by
  obtain ⟨b, t, h, d, rfl⟩ : ∃ (b : Fin 2) (t : Fin 1024) (h : Fin 8) (d : Fin 64), i = ix4 b t h d := ⟨i 0, i 1, i 2, i 3, eq_ix4 i⟩
  obtain ⟨c, s, rfl⟩ := pos_surj t
  obtain ⟨r, hr⟩ := hr c (ix4 b s h d)
  exact ⟨r, ((congrFun (hX c) _).trans (block_apply c Y b s h d)).symm.trans hr⟩

/-- A device's result is its block of the reference's result. -/
theorem result_eq (hQ : ∀ i, ∃ r : ℝ, Q i = (r : EReal)) (hK : ∀ i, ∃ r : ℝ, K i = (r : EReal))
    (h0 : ∀ c : Dev KernelIdeal.nD, m ((c.tc : Thread KernelIdeal.nD KernelIdeal.τ).loc KernelIdeal.main_arg0)
      = block c Q)
    (h1 : ∀ c : Dev KernelIdeal.nD, m ((c.tc : Thread KernelIdeal.nD KernelIdeal.τ).loc KernelIdeal.main_arg1)
      = block c K)
    (h2 : ∀ c : Dev KernelIdeal.nD, m ((c.tc : Thread KernelIdeal.nD KernelIdeal.τ).loc KernelIdeal.main_arg2)
      = block c V)
    (c : Dev KernelIdeal.nD) :
    transpose KernelIdeal.S2x512x8x64 [0, 3, 1, 2] (OUT m c) KernelIdeal.Gen.transposes_S2x8x64x512_S2x512x8x64_0_3_1_2
      = block c (ReferenceIdeal.Read.out Q K V) := by
  funext i
  obtain ⟨b, s, h, d, rfl⟩ : ∃ (b : Fin 2) (s : Fin 512) (h : Fin 8) (d : Fin 64), i = ix4 b s h d := ⟨i 0, i 1, i 2, i 3, eq_ix4 i⟩
  refine (transpose_apply _ _ _ (ix4 b s h d) (ix4 b h d s) ?_).trans (Eq.trans ?_ (block_apply c (ReferenceIdeal.Read.out Q K V) b s h d).symm)
  · intro a
    match a with
    | ⟨0, _⟩ => rfl
    | ⟨1, _⟩ => rfl
    | ⟨2, _⟩ => rfl
    | ⟨3, _⟩ => rfl
  refine outAll_eq Q K V c (QH m c) (KS m c) (VS m c) (KS m (nbr c)) (VS m (nbr c)) hQ hK ?_ ?_ ?_ ?_ ?_ b h d s
  · exact fun b h d s => (congrFun (QH_eq m c) _).trans (laid_block c _ Q (h0 c) b h d s)
  · exact fun b h d s => (congrFun (KH_eq m c) _).trans (laid_block c _ K (h1 c) b h d s)
  · exact fun b h d s => (congrFun (VH_eq m c) _).trans (laid_block c _ V (h2 c) b h d s)
  · exact fun b h d s => (congrFun (KH_eq m (nbr c)) _).trans (laid_block (nbr c) _ K (h1 (nbr c)) b h d s)
  · exact fun b h d s => (congrFun (VH_eq m (nbr c)) _).trans (laid_block (nbr c) _ V (h2 (nbr c)) b h d s)
end

/-- The value claim: for finite queries and keys each device's result is its block of the reference's. -/
theorem algebraic : Cert.algebraic_KernelIdeal_ReferenceIdeal_pre_scores_finite_KernelIdeal := by
  intro m g m' g' hpre hin
  have hQ := real_whole (fun c => m ((c.tc : Thread KernelIdeal.nD KernelIdeal.τ).loc KernelIdeal.main_arg0)) _ (fun c => (hin c).1)
    fun c i => (real_of_pre _ _ _ (hpre c) i).1
  have hK := real_whole (fun c => m ((c.tc : Thread KernelIdeal.nD KernelIdeal.τ).loc KernelIdeal.main_arg1)) _ (fun c => (hin c).2.1)
    fun c i => (real_of_pre _ _ _ (hpre c) i).2
  refine ⟨ReferenceIdeal.Read.out
    (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1))
    (m' (((0 : Dev ReferenceIdeal.nD).tc : Thread ReferenceIdeal.nD ReferenceIdeal.τ).loc ReferenceIdeal.main_arg2)), ?_, ?_⟩
  · refine (θ_run _ _ _).mono (fun r h c => ?_) (run_main (F := Ideal) m g)
    obtain ⟨⟨a0, a1, a2⟩, hv⟩ := h.1 c
    obtain ⟨k0, k1, k2⟩ := arg_kept m c
    exact ⟨hv.trans ((V₃_out m c).trans (result_eq m _ _ _ hQ hK (fun c => (hin c).1) (fun c => (hin c).2.1) (fun c => (hin c).2.2) c)),
      a0.trans k0, a1.trans k1, a2.trans k2⟩
  · exact (θ_run _ _ _).mono (fun r h => h 0) (ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_scores_finite_KernelIdeal
public import proofs.«01_k».proof.Proof.Gen.Pre_scores_finite_ReferenceIdeal
public import Idealize.ShloMosaic.Adequacy
public import Idealize.ShloMosaic.Init

@[expose] public section

noncomputable section

namespace Cert.Proof

open Idealize.ShloMosaic Idealize.SL.Sem Cert.Kernel

/-- The certificate: the three frames, the idealization, which rewrote nothing, and the value claim. -/
theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_ideal, fun m g _ => frame_ideal m g trivial, frame_reference, fun m g _ => frame_reference m g trivial, trivial, algebraic⟩

end Cert.Proof

end
